-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_range [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_in_range [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_last_padding_row_empty_pre_targets_in_range [hKernelIdeal : Cert.KernelIdeal.Facts] [hReferenceIdeal : Cert.ReferenceIdeal.Facts] [hPre_targets_in_range : Cert.Pre_targets_in_range.Facts] [hOn_last_padding_row_empty : Cert.On_last_padding_row_empty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v20) i = v0 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v21) i = v1 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v22) i = v2 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_v23) i = v3 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 i = 1#1 → r.2.mem ((c.tc : Thread Cert.KernelIdeal.nD Cert.KernelIdeal.τ).loc Cert.KernelIdeal.main_v24) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v291) i = v0 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v297) i = v1 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v299) i = v2 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_v301) i = v3 c i)
          ∧ (∀ i : (⟨0, ![]⟩ : Shape).Idx, (Cert.On_last_padding_row_empty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 i = 1#1 → r.2.mem ((c.tc : Thread Cert.ReferenceIdeal.nD Cert.ReferenceIdeal.τ).loc Cert.ReferenceIdeal.main_v303) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hOn_last_padding_row_empty : Cert.On_last_padding_row_empty.Facts),
    quiescent_Kernel (hKernel := hKernel)
    ∧ quiescent_KernelIdeal (hKernelIdeal := hKernelIdeal)
    ∧ quiescent_KernelIdeal_pre_targets_in_range (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ preserves_Kernel_KernelIdeal
    ∧ algebraic_KernelIdeal_ReferenceIdeal_on_last_padding_row_empty_pre_targets_in_range (hKernelIdeal := hKernelIdeal) (hReferenceIdeal := hReferenceIdeal) (hPre_targets_in_range := hPre_targets_in_range) (hOn_last_padding_row_empty := hOn_last_padding_row_empty)
-- ==== On_last_padding_row_empty.lean ====
abbrev S32x3x26x26x95 : Shape := ⟨5, ![32, 3, 26, 26, 95]⟩
abbrev S32x50x9 : Shape := ⟨3, ![32, 50, 9]⟩
abbrev S32x50x1 : Shape := ⟨3, ![32, 50, 1]⟩
abbrev S32x50 : Shape := ⟨2, ![32, 50]⟩
abbrev S_ : Shape := ⟨0, ![]⟩
abbrev S32x50x50 : Shape := ⟨3, ![32, 50, 50]⟩
abbrev S32x1x50 : Shape := ⟨3, ![32, 1, 50]⟩

class Facts : Prop where
  slices_S32x50x9_S32x50x1_0_0_0 : S32x50x9.Slices ![0, 0, 0] S32x50x1
  shapeCasts_S32x50x1_S32x50 : S32x50x1.ShapeCasts S32x50
  slices_S32x50x9_S32x50x1_0_0_1 : S32x50x9.Slices ![0, 0, 1] S32x50x1
  bcast_S_S32x50 : S_.BroadcastsInDim S32x50 (![] : Fin 0 → Fin S32x50.rank)
  slices_S32x50x9_S32x50x1_0_0_2 : S32x50x9.Slices ![0, 0, 2] S32x50x1
  slices_S32x50x9_S32x50x1_0_0_3 : S32x50x9.Slices ![0, 0, 3] S32x50x1
  slices_S32x50x9_S32x50x1_0_0_4 : S32x50x9.Slices ![0, 0, 4] S32x50x1
  slices_S32x50x9_S32x50x1_0_0_5 : S32x50x9.Slices ![0, 0, 5] S32x50x1
  bcast_S32x50_S32x1x50_0_2 : S32x50.BroadcastsInDim S32x1x50 (![0, 2] : Fin 2 → Fin S32x1x50.rank)
  bcast_S32x1x50_S32x50x50_0_1_2 : S32x1x50.BroadcastsInDim S32x50x50 (![0, 1, 2] : Fin 3 → Fin S32x50x50.rank)
  reducesTo_S32x50x50_S32x50_d2 : S32x50x50.ReducesTo [2] S32x50
  h_S_ : 0 < S_.numel
  reducesTo_S32x50_S_d0_1 : S32x50.ReducesTo [0, 1] S_

variable [Facts]

def fn_part2 {F : FTy → Type} [FloatOps F] (main_v38 : IVec S32x50 1) (main_c_7 : IVec S_ 1) : IVec S_ 1 × IVec S_ 1 × IVec S_ 1 × IVec S_ 1 × IVec S_ 1 :=
  let main_v39 : IVec S_ 1 := (fun x v => Host.reduce IntOp.andi x v reducesTo_S32x50_S_d0_1 h_S_) main_v38 main_c_7
  let main_c_8 : IVec S_ 1 := constantI S_ 1 1#1
  let main_c_9 : IVec S_ 1 := constantI S_ 1 1#1
  let main_c_10 : IVec S_ 1 := constantI S_ 1 1#1
  (main_v39, main_v39, main_c_8, main_c_9, main_c_10)

def fn_part1 {F : FTy → Type} [FloatOps F] (main_arg1 : IVec S32x50x9 32) (main_v1 : IVec S32x50 32) (main_v15 : IVec S32x50 1) (main_v19 : IVec S32x50 1) : IVec S_ 1 × IVec S_ 1 × IVec S_ 1 × IVec S_ 1 × IVec S_ 1 :=
  let main_v20 : IVec S32x50 1 := andi main_v15 main_v19
  let main_c_3 : IVec S_ 32 := constantI S_ 32 0#32
  let main_v21 : IVec S32x50 32 := broadcastInDim S32x50 ![] bcast_S_S32x50 main_c_3
  let main_v22 : IVec S32x50 1 := cmpi .eq main_v1 main_v21
  let main_v23 : IVec S32x50x1 32 := (extractStridedSlice S32x50x1 ![0, 0, 5] · slices_S32x50x9_S32x50x1_0_0_5) main_arg1
  let main_v24 : IVec S32x50 32 := shapeCast S32x50 main_v23 shapeCasts_S32x50x1_S32x50
  let main_c_4 : IVec S_ 32 := constantI S_ 32 1#32
  let main_v25 : IVec S32x50 32 := broadcastInDim S32x50 ![] bcast_S_S32x50 main_c_4
  let main_v26 : IVec S32x50 1 := cmpi .ne main_v24 main_v25
  let main_v27 : IVec S32x50 1 := ori main_v22 main_v26
  let main_v28 : IVec S32x50x50 32 := iotaInDim S32x50x50 32 2
  let main_v29 : IVec S32x50x50 32 := iotaInDim S32x50x50 32 1
  let main_v30 : IVec S32x50x50 1 := cmpi .sgt main_v28 main_v29
  let main_v31 : IVec S32x1x50 1 := broadcastInDim S32x1x50 ![0, 2] bcast_S32x50_S32x1x50_0_2 main_v27
  let main_v32 : IVec S32x50x50 1 := broadcastInDim S32x50x50 ![0, 1, 2] bcast_S32x1x50_S32x50x50_0_1_2 main_v31
  let main_v33 : IVec S32x50x50 1 := andi main_v32 main_v30
  let main_c_5 : IVec S_ 1 := constantI S_ 1 0#1
  let main_v34 : IVec S32x50 1 := (fun x v => Host.reduce IntOp.ori x v reducesTo_S32x50x50_S32x50_d2 h_S_) main_v33 main_c_5
  let main_c_6 : IVec S_ 32 := constantI S_ 32 0#32
  let main_v35 : IVec S32x50 32 := broadcastInDim S32x50 ![] bcast_S_S32x50 main_c_6
  let main_v36 : IVec S32x50 1 := cmpi .ne main_v1 main_v35
  let main_v37 : IVec S32x50 1 := ori main_v36 main_v20
  let main_v38 : IVec S32x50 1 := ori main_v37 main_v34
  let main_c_7 : IVec S_ 1 := constantI S_ 1 1#1
  fn_part2 (F := F) main_v38 main_c_7

def fn {F : FTy → Type} [FloatOps F] (main_arg0 : FVec F S32x3x26x26x95 .f32) (main_arg1 : IVec S32x50x9 32) : IVec S_ 1 × IVec S_ 1 × IVec S_ 1 × IVec S_ 1 × IVec S_ 1 :=
  let main_v0 : IVec S32x50x1 32 := (extractStridedSlice S32x50x1 ![0, 0, 0] · slices_S32x50x9_S32x50x1_0_0_0) main_arg1
  let main_v1 : IVec S32x50 32 := shapeCast S32x50 main_v0 shapeCasts_S32x50x1_S32x50
  let main_v2 : IVec S32x50x1 32 := (extractStridedSlice S32x50x1 ![0, 0, 1] · slices_S32x50x9_S32x50x1_0_0_1) main_arg1
  let main_v3 : IVec S32x50 32 := shapeCast S32x50 main_v2 shapeCasts_S32x50x1_S32x50
  let main_c : IVec S_ 32 := constantI S_ 32 0#32
  let main_v4 : IVec S32x50 32 := broadcastInDim S32x50 ![] bcast_S_S32x50 main_c
  let main_v5 : IVec S32x50 1 := cmpi .eq main_v3 main_v4
  let main_v6 : IVec S32x50x1 32 := (extractStridedSlice S32x50x1 ![0, 0, 2] · slices_S32x50x9_S32x50x1_0_0_2) main_arg1
  let main_v7 : IVec S32x50 32 := shapeCast S32x50 main_v6 shapeCasts_S32x50x1_S32x50
  let main_c_0 : IVec S_ 32 := constantI S_ 32 0#32
  let main_v8 : IVec S32x50 32 := broadcastInDim S32x50 ![] bcast_S_S32x50 main_c_0
  let main_v9 : IVec S32x50 1 := cmpi .eq main_v7 main_v8
  let main_v10 : IVec S32x50 1 := andi main_v5 main_v9
  let main_v11 : IVec S32x50x1 32 := (extractStridedSlice S32x50x1 ![0, 0, 3] · slices_S32x50x9_S32x50x1_0_0_3) main_arg1
  let main_v12 : IVec S32x50 32 := shapeCast S32x50 main_v11 shapeCasts_S32x50x1_S32x50
  let main_c_1 : IVec S_ 32 := constantI S_ 32 0#32
  let main_v13 : IVec S32x50 32 := broadcastInDim S32x50 ![] bcast_S_S32x50 main_c_1
  let main_v14 : IVec S32x50 1 := cmpi .eq main_v12 main_v13
  let main_v15 : IVec S32x50 1 := andi main_v10 main_v14
  let main_v16 : IVec S32x50x1 32 := (extractStridedSlice S32x50x1 ![0, 0, 4] · slices_S32x50x9_S32x50x1_0_0_4) main_arg1
  let main_v17 : IVec S32x50 32 := shapeCast S32x50 main_v16 shapeCasts_S32x50x1_S32x50
  let main_c_2 : IVec S_ 32 := constantI S_ 32 0#32
  let main_v18 : IVec S32x50 32 := broadcastInDim S32x50 ![] bcast_S_S32x50 main_c_2
  let main_v19 : IVec S32x50 1 := cmpi .eq main_v17 main_v18
  fn_part1 (F := F) main_arg1 main_v1 main_v15 main_v19
-- ==== Pre_targets_in_range.lean ====
abbrev S32x3x26x26x95 : Shape := ⟨5, ![32, 3, 26, 26, 95]⟩
abbrev S32x50x9 : Shape := ⟨3, ![32, 50, 9]⟩
abbrev S_ : Shape := ⟨0, ![]⟩

class Facts : Prop where
  bcast_S_S32x50x9 : S_.BroadcastsInDim S32x50x9 (![] : Fin 0 → Fin S32x50x9.rank)

variable [Facts]

def fn {F : FTy → Type} [FloatOps F] (main_arg0 : FVec F S32x3x26x26x95 .f32) (main_arg1 : IVec S32x50x9 32) : IVec S32x50x9 1 :=
  let main_c : IVec S_ 32 := constantI S_ 32 0#32
  let main_v0 : IVec S32x50x9 32 := broadcastInDim S32x50x9 ![] bcast_S_S32x50x9 main_c
  let main_v1 : IVec S32x50x9 1 := cmpi .sge main_arg1 main_v0
  let main_c_0 : IVec S_ 32 := constantI S_ 32 3#32
  let main_v2 : IVec S32x50x9 32 := broadcastInDim S32x50x9 ![] bcast_S_S32x50x9 main_c_0
  let main_v3 : IVec S32x50x9 1 := cmpi .slt main_arg1 main_v2
  let main_v4 : IVec S32x50x9 1 := andi main_v1 main_v3
  main_v4
-- ==== Kernel.lean ====
abbrev S32x3x26x26x95 : Shape := ⟨5, ![32, 3, 26, 26, 95]⟩
abbrev S32x50x9 : Shape := ⟨3, ![32, 50, 9]⟩
abbrev S9x32x50 : Shape := ⟨3, ![9, 32, 50]⟩
abbrev S1x8 : Shape := ⟨2, ![1, 8]⟩
abbrev S4x8x28x95 : Shape := ⟨4, ![4, 8, 28, 95]⟩
abbrev S8x3x26x26x95 : Shape := ⟨5, ![8, 3, 26, 26, 95]⟩
abbrev S1x8x28x95 : Shape := ⟨4, ![1, 8, 28, 95]⟩
abbrev S8x3x26x26x1 : Shape := ⟨5, ![8, 3, 26, 26, 1]⟩
abbrev S8x3x26x26 : Shape := ⟨4, ![8, 3, 26, 26]⟩
abbrev S1x8x3x26x26 : Shape := ⟨5, ![1, 8, 3, 26, 26]⟩
abbrev S1 : Shape := ⟨1, ![1]⟩
abbrev S1x1x1x1x1 : Shape := ⟨5, ![1, 1, 1, 1, 1]⟩
abbrev S1x1 : Shape := ⟨2, ![1, 1]⟩
abbrev S1x2 : Shape := ⟨2, ![1, 2]⟩
abbrev S1x5 : Shape := ⟨2, ![1, 5]⟩
abbrev S8x3x3x3x95 : Shape := ⟨5, ![8, 3, 3, 3, 95]⟩
abbrev S8x27x95 : Shape := ⟨3, ![8, 27, 95]⟩
abbrev S8x1x1x1x95 : Shape := ⟨5, ![8, 1, 1, 1, 95]⟩
abbrev S8x1x1x95 : Shape := ⟨4, ![8, 1, 1, 95]⟩
abbrev S8x1x95 : Shape := ⟨3, ![8, 1, 95]⟩
abbrev S8x28x95 : Shape := ⟨3, ![8, 28, 95]⟩
abbrev S32x28x95 : Shape := ⟨3, ![32, 28, 95]⟩
abbrev S1x32x50 : Shape := ⟨3, ![1, 32, 50]⟩
abbrev S32x50 : Shape := ⟨2, ![32, 50]⟩
abbrev S32 : Shape := ⟨1, ![32]⟩
abbrev S32x1 : Shape := ⟨2, ![32, 1]⟩
abbrev S32x28 : Shape := ⟨2, ![32, 28]⟩
abbrev S1x28 : Shape := ⟨2, ![1, 28]⟩
abbrev S32x28x1 : Shape := ⟨3, ![32, 28, 1]⟩
abbrev S1x32x28 : Shape := ⟨3, ![1, 32, 28]⟩
abbrev S1x1x1 : Shape := ⟨3, ![1, 1, 1]⟩
abbrev S32x28x90 : Shape := ⟨3, ![32, 28, 90]⟩
abbrev S1x3 : Shape := ⟨2, ![1, 3]⟩
abbrev S8 : Shape := ⟨1, ![8]⟩
abbrev S_ : Shape := ⟨0, ![]⟩

abbrev nBuf : Space → Nat
  | .hbm => 32
  | .vmem => 9
  | .smem => 0
  | _ => 0

abbrev bufTy : (tb : Table) → Fin (tcTables nBuf tb) → BufTy
  | .hbm, ⟨0, _⟩ => ⟨S32x3x26x26x95, .f32⟩
  | .hbm, ⟨1, _⟩ => ⟨S32x50x9, .i32⟩
  | .hbm, ⟨2, _⟩ => ⟨S9x32x50, .i32⟩
  | .hbm, ⟨3, _⟩ => ⟨S1x8, .f32⟩
  | .hbm, ⟨4, _⟩ => ⟨S4x8x28x95, .f32⟩
  | .hbm, ⟨5, _⟩ => ⟨S1x8, .f32⟩
  | .hbm, ⟨6, _⟩ => ⟨S8, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S8x3x26x26x95, .f32⟩
  | .local _ .vmem, ⟨1, _⟩ => ⟨S8x3x26x26x95, .f32⟩
  | .local _ .vmem, ⟨2, _⟩ => ⟨S1x8, .f32⟩
  | .local _ .vmem, ⟨3, _⟩ => ⟨S1x8x28x95, .f32⟩
  | .local _ .vmem, ⟨4, _⟩ => ⟨S1x8x28x95, .f32⟩
  | .local _ .vmem, ⟨5, _⟩ => ⟨S4x8x28x95, .f32⟩
  | .local _ .vmem, ⟨6, _⟩ => ⟨S9x32x50, .i32⟩
  | .local _ .vmem, ⟨7, _⟩ => ⟨S1x8, .f32⟩
  | .local _ .vmem, ⟨8, _⟩ => ⟨S1x8, .f32⟩
  | _, _ => ⟨S32x3x26x26x95, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3x26x26x95 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x28x95 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x8x28x95 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S9x32x50 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S32x3x26x26x95 : Shape := ⟨5, ![32, 3, 26, 26, 95]⟩
abbrev S32x50x9 : Shape := ⟨3, ![32, 50, 9]⟩
abbrev S32x50x1 : Shape := ⟨3, ![32, 50, 1]⟩
abbrev S32x50 : Shape := ⟨2, ![32, 50]⟩
abbrev S_ : Shape := ⟨0, ![]⟩
abbrev S32 : Shape := ⟨1, ![32]⟩
abbrev S32x1 : Shape := ⟨2, ![32, 1]⟩
abbrev S32x3x26x26x9 : Shape := ⟨5, ![32, 3, 26, 26, 9]⟩
abbrev S1600 : Shape := ⟨1, ![1600]⟩
abbrev S1600x9 : Shape := ⟨2, ![1600, 9]⟩
abbrev S1600x1 : Shape := ⟨2, ![1600, 1]⟩
abbrev S1600x4 : Shape := ⟨2, ![1600, 4]⟩
abbrev S32x3x26x26x90 : Shape := ⟨5, ![32, 3, 26, 26, 90]⟩
abbrev S1600x5 : Shape := ⟨2, ![1600, 5]⟩
abbrev S32x3x26x26x1 : Shape := ⟨5, ![32, 3, 26, 26, 1]⟩
abbrev S32x3x26x26 : Shape := ⟨4, ![32, 3, 26, 26]⟩
abbrev S26 : Shape := ⟨1, ![26]⟩
abbrev S26x26 : Shape := ⟨2, ![26, 26]⟩
abbrev S1x1x1x1 : Shape := ⟨4, ![1, 1, 1, 1]⟩
abbrev S1x3x1x1 : Shape := ⟨4, ![1, 3, 1, 1]⟩
abbrev S1x1x26x26 : Shape := ⟨4, ![1, 1, 26, 26]⟩

abbrev nBuf : Space → Nat
  | .hbm => 438
  | .vmem => 0
  | .smem => 0
  | _ => 0

abbrev hbmTy0_0 (i : Nat) : BufTy := match i % 128 with
  | 0 => ⟨S32x3x26x26x95, .f32⟩
  | 1 => ⟨S32x50x9, .i32⟩
  | 2 => ⟨S32x50x9, .f32⟩
  | 3 => ⟨S32x50x1, .i32⟩
  | 4 => ⟨S32x50, .i32⟩
  | 5 => ⟨S_, .i32⟩
  | 6 => ⟨S32x50, .i32⟩
  | 7 => ⟨S32x50, .i1⟩
  | 8 => ⟨S32x50x1, .i32⟩
  | 9 => ⟨S32x50, .i32⟩
  | 10 => ⟨S_, .i32⟩
  | 11 => ⟨S32x50, .i32⟩
  | 12 => ⟨S32x50, .i1⟩
  | 13 => ⟨S32x50, .i1⟩
  | 14 => ⟨S32, .i32⟩
  | 15 => ⟨S32x1, .i32⟩
  | 16 => ⟨S32x50, .i32⟩
  | 17 => ⟨S32x50x1, .i32⟩
  | 18 => ⟨S32x50, .i32⟩
  | 19 => ⟨S_, .i32⟩
  | 20 => ⟨S_, .i32⟩
  | 21 => ⟨S32x50, .i32⟩
  | 22 => ⟨S32x50, .i32⟩
  | 23 => ⟨S32x50x1, .i32⟩
  | 24 => ⟨S32x50, .i32⟩
  | 25 => ⟨S_, .i32⟩
  | 26 => ⟨S_, .i32⟩
  | 27 => ⟨S32x50, .i32⟩
  | 28 => ⟨S32x50, .i32⟩
  | 29 => ⟨S32x50x1, .i32⟩
  | 30 => ⟨S32x50, .i32⟩
  | 31 => ⟨S_, .i32⟩
  | 32 => ⟨S_, .i32⟩
  | 33 => ⟨S32x50, .i32⟩
  | 34 => ⟨S32x50, .i32⟩
  | 35 => ⟨S32x50x1, .i32⟩
  | 36 => ⟨S32x50, .i32⟩
  | 37 => ⟨S_, .i32⟩
  | 38 => ⟨S32x50, .i32⟩
  | 39 => ⟨S32x50, .i32⟩
  | 40 => ⟨S_, .i32⟩
  | 41 => ⟨S_, .i32⟩
  | 42 => ⟨S32x50, .i32⟩
  | 43 => ⟨S32x50, .i32⟩
  | 44 => ⟨S_, .f32⟩
  | 45 => ⟨S32x3x26x26x9, .f32⟩
  | 46 => ⟨S1600, .i32⟩
  | 47 => ⟨S1600, .i32⟩
  | 48 => ⟨S1600, .i32⟩
  | 49 => ⟨S1600, .i32⟩
  | 50 => ⟨S1600x9, .f32⟩
  | 51 => ⟨S_, .i32⟩
  | 52 => ⟨S1600, .i32⟩
  | 53 => ⟨S1600, .i1⟩
  | 54 => ⟨S_, .i32⟩
  | 55 => ⟨S1600, .i32⟩
  | 56 => ⟨S1600, .i32⟩
  | 57 => ⟨S1600, .i32⟩
  | 58 => ⟨S_, .i32⟩
  | 59 => ⟨S1600, .i32⟩
  | 60 => ⟨S1600, .i1⟩
  | 61 => ⟨S_, .i32⟩
  | 62 => ⟨S1600, .i32⟩
  | 63 => ⟨S1600, .i32⟩
  | 64 => ⟨S1600, .i32⟩
  | 65 => ⟨S_, .i32⟩
  | 66 => ⟨S1600, .i32⟩
  | 67 => ⟨S1600, .i1⟩
  | 68 => ⟨S_, .i32⟩
  | 69 => ⟨S1600, .i32⟩
  | 70 => ⟨S1600, .i32⟩
  | 71 => ⟨S1600, .i32⟩
  | 72 => ⟨S_, .i32⟩
  | 73 => ⟨S1600, .i32⟩
  | 74 => ⟨S1600, .i1⟩
  | 75 => ⟨S_, .i32⟩
  | 76 => ⟨S1600, .i32⟩
  | 77 => ⟨S1600, .i32⟩
  | 78 => ⟨S1600, .i32⟩
  | 79 => ⟨S1600x1, .i32⟩
  | 80 => ⟨S1600x1, .i32⟩
  | 81 => ⟨S1600x1, .i32⟩
  | 82 => ⟨S1600x1, .i32⟩
  | 83 => ⟨S1600x4, .i32⟩
  | 84 => ⟨S32x3x26x26x9, .f32⟩
  | 85 => ⟨S_, .f32⟩
  | 86 => ⟨S32x3x26x26x90, .f32⟩
  | 87 => ⟨S1600, .i32⟩
  | 88 => ⟨S1600, .i32⟩
  | 89 => ⟨S1600, .i32⟩
  | 90 => ⟨S1600, .i32⟩
  | 91 => ⟨S1600, .i32⟩
  | 92 => ⟨S_, .i32⟩
  | 93 => ⟨S1600, .i32⟩
  | 94 => ⟨S1600, .i1⟩
  | 95 => ⟨S_, .i32⟩
  | 96 => ⟨S1600, .i32⟩
  | 97 => ⟨S1600, .i32⟩
  | 98 => ⟨S1600, .i32⟩
  | 99 => ⟨S_, .i32⟩
  | 100 => ⟨S1600, .i32⟩
  | 101 => ⟨S1600, .i1⟩
  | 102 => ⟨S_, .i32⟩
  | 103 => ⟨S1600, .i32⟩
  | 104 => ⟨S1600, .i32⟩
  | 105 => ⟨S1600, .i32⟩
  | 106 => ⟨S_, .i32⟩
  | 107 => ⟨S1600, .i32⟩
  | 108 => ⟨S1600, .i1⟩
  | 109 => ⟨S_, .i32⟩
  | 110 => ⟨S1600, .i32⟩
  | 111 => ⟨S1600, .i32⟩
  | 112 => ⟨S1600, .i32⟩
  | 113 => ⟨S_, .i32⟩
  | 114 => ⟨S1600, .i32⟩
  | 115 => ⟨S1600, .i1⟩
  | 116 => ⟨S_, .i32⟩
  | 117 => ⟨S1600, .i32⟩
  | 118 => ⟨S1600, .i32⟩
  | 119 => ⟨S1600, .i32⟩
  | 120 => ⟨S_, .i32⟩
  | 121 => ⟨S1600, .i32⟩
  | 122 => ⟨S1600, .i1⟩
  | 123 => ⟨S_, .i32⟩
  | 124 => ⟨S1600, .i32⟩
  | 125 => ⟨S1600, .i32⟩
  | 126 => ⟨S1600, .i32⟩
  | 127 => ⟨S1600x1, .i32⟩
  | _ => ⟨S32x3x26x26x95, .f32⟩

abbrev hbmTy0_1 (i : Nat) : BufTy := match i % 128 with
  | 0 => ⟨S1600x1, .i32⟩
  | 1 => ⟨S1600x1, .i32⟩
  | 2 => ⟨S1600x1, .i32⟩
  | 3 => ⟨S1600x1, .i32⟩
  | 4 => ⟨S1600x5, .i32⟩
  | 5 => ⟨S_, .f32⟩
  | 6 => ⟨S1600, .f32⟩
  | 7 => ⟨S32x3x26x26x90, .f32⟩
  | 8 => ⟨S32x3x26x26x1, .f32⟩
  | 9 => ⟨S32x3x26x26, .f32⟩
  | 10 => ⟨S32x3x26x26x1, .f32⟩
  | 11 => ⟨S32x3x26x26, .f32⟩
  | 12 => ⟨S32x3x26x26x1, .f32⟩
  | 13 => ⟨S32x3x26x26, .f32⟩
  | 14 => ⟨S32x3x26x26x1, .f32⟩
  | 15 => ⟨S32x3x26x26, .f32⟩
  | 16 => ⟨S32x3x26x26x1, .f32⟩
  | 17 => ⟨S32x3x26x26, .f32⟩
  | 18 => ⟨S_, .f32⟩
  | 19 => ⟨S32x3x26x26, .f32⟩
  | 20 => ⟨S32x3x26x26, .i1⟩
  | 21 => ⟨S32x3x26x26, .f32⟩
  | 22 => ⟨S_, .f32⟩
  | 23 => ⟨S32x3x26x26, .f32⟩
  | 24 => ⟨S32x3x26x26, .i1⟩
  | 25 => ⟨S32x3x26x26, .f32⟩
  | 26 => ⟨S26, .f32⟩
  | 27 => ⟨S26x26, .f32⟩
  | 28 => ⟨S26x26, .f32⟩
  | 29 => ⟨S_, .f32⟩
  | 30 => ⟨S1x1x1x1, .f32⟩
  | 31 => ⟨S_, .f32⟩
  | 32 => ⟨S1x1x1x1, .f32⟩
  | 33 => ⟨S_, .f32⟩
  | 34 => ⟨S1x1x1x1, .f32⟩
  | 35 => ⟨S1x3x1x1, .f32⟩
  | 36 => ⟨S_, .f32⟩
  | 37 => ⟨S1x1x1x1, .f32⟩
  | 38 => ⟨S_, .f32⟩
  | 39 => ⟨S1x1x1x1, .f32⟩
  | 40 => ⟨S_, .f32⟩
  | 41 => ⟨S1x1x1x1, .f32⟩
  | 42 => ⟨S1x3x1x1, .f32⟩
  | 43 => ⟨S32x3x26x26x1, .f32⟩
  | 44 => ⟨S32x3x26x26, .f32⟩
  | 45 => ⟨S32x3x26x26, .f32⟩
  | 46 => ⟨S32x3x26x26, .f32⟩
  | 47 => ⟨S_, .f32⟩
  | 48 => ⟨S32x3x26x26, .f32⟩
  | 49 => ⟨S32x3x26x26, .f32⟩
  | 50 => ⟨S_, .f32⟩
  | 51 => ⟨S32x3x26x26, .f32⟩
  | 52 => ⟨S32x3x26x26, .f32⟩
  | 53 => ⟨S_, .f32⟩
  | 54 => ⟨S32x3x26x26, .f32⟩
  | 55 => ⟨S32x3x26x26, .f32⟩
  | 56 => ⟨S_, .f32⟩
  | 57 => ⟨S26x26, .f32⟩
  | 58 => ⟨S26x26, .f32⟩
  | 59 => ⟨S1x1x26x26, .f32⟩
  | 60 => ⟨S32x3x26x26, .f32⟩
  | 61 => ⟨S32x3x26x26, .f32⟩
  | 62 => ⟨S32x3x26x26x1, .f32⟩
  | 63 => ⟨S32x3x26x26, .f32⟩
  | 64 => ⟨S32x3x26x26, .f32⟩
  | 65 => ⟨S32x3x26x26, .f32⟩
  | 66 => ⟨S_, .f32⟩
  | 67 => ⟨S32x3x26x26, .f32⟩
  | 68 => ⟨S32x3x26x26, .f32⟩
  | 69 => ⟨S_, .f32⟩
  | 70 => ⟨S32x3x26x26, .f32⟩
  | 71 => ⟨S32x3x26x26, .f32⟩
  | 72 => ⟨S_, .f32⟩
  | 73 => ⟨S32x3x26x26, .f32⟩
  | 74 => ⟨S32x3x26x26, .f32⟩
  | 75 => ⟨S_, .f32⟩
  | 76 => ⟨S26x26, .f32⟩
  | 77 => ⟨S26x26, .f32⟩
  | 78 => ⟨S1x1x26x26, .f32⟩
  | 79 => ⟨S32x3x26x26, .f32⟩
  | 80 => ⟨S32x3x26x26, .f32⟩
  | 81 => ⟨S32x3x26x26x1, .f32⟩
  | 82 => ⟨S32x3x26x26, .f32⟩
  | 83 => ⟨S32x3x26x26, .f32⟩
  | 84 => ⟨S32x3x26x26, .f32⟩
  | 85 => ⟨S32x3x26x26, .f32⟩
  | 86 => ⟨S32x3x26x26x1, .f32⟩
  | 87 => ⟨S32x3x26x26, .f32⟩
  | 88 => ⟨S32x3x26x26, .f32⟩
  | 89 => ⟨S32x3x26x26, .f32⟩
  | 90 => ⟨S32x3x26x26, .f32⟩
  | 91 => ⟨S32x3x26x26x1, .f32⟩
  | 92 => ⟨S32x3x26x26, .f32⟩
  | 93 => ⟨S32x3x26x26, .f32⟩
  | 94 => ⟨S32x3x26x26, .f32⟩
  | 95 => ⟨S_, .f32⟩
  | 96 => ⟨S32x3x26x26, .f32⟩
  | 97 => ⟨S32x3x26x26, .f32⟩
  | 98 => ⟨S_, .f32⟩
  | 99 => ⟨S32x3x26x26, .f32⟩
  | 100 => ⟨S32x3x26x26, .f32⟩
  | 101 => ⟨S32x3x26x26x90, .f32⟩
  | 102 => ⟨S32x3x26x26x90, .f32⟩
  | 103 => ⟨S32x3x26x26x90, .f32⟩
  | 104 => ⟨S_, .f32⟩
  | 105 => ⟨S32x3x26x26x90, .f32⟩
  | 106 => ⟨S32x3x26x26x90, .f32⟩
  | 107 => ⟨S_, .f32⟩
  | 108 => ⟨S32x3x26x26x90, .f32⟩
  | 109 => ⟨S32x3x26x26x90, .f32⟩
  | 110 => ⟨S32x3x26x26, .f32⟩
  | 111 => ⟨S32x3x26x26, .f32⟩
  | 112 => ⟨S32x3x26x26, .f32⟩
  | 113 => ⟨S32x3x26x26, .f32⟩
  | 114 => ⟨S32x3x26x26, .f32⟩
  | 115 => ⟨S32x3x26x26, .f32⟩
  | 116 => ⟨S32x3x26x26, .f32⟩
  | 117 => ⟨S32x3x26x26, .f32⟩
  | 118 => ⟨S32x3x26x26, .f32⟩
  | 119 => ⟨S32x3x26x26, .f32⟩
  | 120 => ⟨S32x3x26x26, .f32⟩
  | 121 => ⟨S32x3x26x26, .f32⟩
  | 122 => ⟨S32x3x26x26, .f32⟩
  | 123 => ⟨S32x3x26x26, .f32⟩
  | 124 => ⟨S32x3x26x26, .f32⟩
  | 125 => ⟨S_, .f32⟩
  | 126 => ⟨S32x3x26x26, .f32⟩
  | 127 => ⟨S32x3x26x26, .f32⟩
  | _ => ⟨S32x3x26x26x95, .f32⟩

abbrev hbmTy0_2 (i : Nat) : BufTy := match i % 128 with
  | 0 => ⟨S32x3x26x26, .f32⟩
  | 1 => ⟨S_, .f32⟩
  | 2 => ⟨S32x3x26x26, .f32⟩
  | 3 => ⟨S32x3x26x26, .i1⟩
  | 4 => ⟨S_, .f32⟩
  | 5 => ⟨S_, .f32⟩
  | 6 => ⟨S32x3x26x26, .f32⟩
  | 7 => ⟨S32x3x26x26, .f32⟩
  | 8 => ⟨S32x3x26x26, .f32⟩
  | 9 => ⟨S_, .f32⟩
  | 10 => ⟨S32x3x26x26, .f32⟩
  | 11 => ⟨S32x3x26x26, .i1⟩
  | 12 => ⟨S_, .f32⟩
  | 13 => ⟨S32x3x26x26, .f32⟩
  | 14 => ⟨S32x3x26x26, .f32⟩
  | 15 => ⟨S_, .f32⟩
  | 16 => ⟨S_, .f32⟩
  | 17 => ⟨S32x3x26x26, .f32⟩
  | 18 => ⟨S32x3x26x26, .f32⟩
  | 19 => ⟨S32x3x26x26, .f32⟩
  | 20 => ⟨S_, .f32⟩
  | 21 => ⟨S32x3x26x26, .f32⟩
  | 22 => ⟨S32x3x26x26, .f32⟩
  | 23 => ⟨S_, .f32⟩
  | 24 => ⟨S32x3x26x26, .f32⟩
  | 25 => ⟨S32x3x26x26, .f32⟩
  | 26 => ⟨S_, .f32⟩
  | 27 => ⟨S32x3x26x26, .f32⟩
  | 28 => ⟨S32x3x26x26, .i1⟩
  | 29 => ⟨S_, .f32⟩
  | 30 => ⟨S_, .f32⟩
  | 31 => ⟨S32x3x26x26, .f32⟩
  | 32 => ⟨S32x3x26x26, .f32⟩
  | 33 => ⟨S32x3x26x26, .f32⟩
  | 34 => ⟨S_, .f32⟩
  | 35 => ⟨S32x3x26x26, .f32⟩
  | 36 => ⟨S32x3x26x26, .i1⟩
  | 37 => ⟨S_, .f32⟩
  | 38 => ⟨S32x3x26x26, .f32⟩
  | 39 => ⟨S32x3x26x26, .f32⟩
  | 40 => ⟨S_, .f32⟩
  | 41 => ⟨S_, .f32⟩
  | 42 => ⟨S32x3x26x26, .f32⟩
  | 43 => ⟨S32x3x26x26, .f32⟩
  | 44 => ⟨S32x3x26x26, .f32⟩
  | 45 => ⟨S32x3x26x26, .f32⟩
  | 46 => ⟨S32x3x26x26, .f32⟩
  | 47 => ⟨S_, .f32⟩
  | 48 => ⟨S32x3x26x26, .f32⟩
  | 49 => ⟨S32x3x26x26, .f32⟩
  | 50 => ⟨S32x3x26x26, .f32⟩
  | 51 => ⟨S_, .f32⟩
  | 52 => ⟨S32x3x26x26, .f32⟩
  | 53 => ⟨S32x3x26x26, .i1⟩
  | 54 => ⟨S_, .f32⟩
  | 55 => ⟨S_, .f32⟩
  | 56 => ⟨S32x3x26x26, .f32⟩
  | 57 => ⟨S32x3x26x26, .f32⟩
  | 58 => ⟨S32x3x26x26, .f32⟩
  | 59 => ⟨S_, .f32⟩
  | 60 => ⟨S32x3x26x26, .f32⟩
  | 61 => ⟨S32x3x26x26, .i1⟩
  | 62 => ⟨S_, .f32⟩
  | 63 => ⟨S32x3x26x26, .f32⟩
  | 64 => ⟨S32x3x26x26, .f32⟩
  | 65 => ⟨S_, .f32⟩
  | 66 => ⟨S_, .f32⟩
  | 67 => ⟨S32x3x26x26, .f32⟩
  | 68 => ⟨S32x3x26x26, .f32⟩
  | 69 => ⟨S32x3x26x26, .f32⟩
  | 70 => ⟨S_, .f32⟩
  | 71 => ⟨S32x3x26x26, .f32⟩
  | 72 => ⟨S32x3x26x26, .f32⟩
  | 73 => ⟨S_, .f32⟩
  | 74 => ⟨S32x3x26x26, .f32⟩
  | 75 => ⟨S32x3x26x26, .f32⟩
  | 76 => ⟨S_, .f32⟩
  | 77 => ⟨S32x3x26x26, .f32⟩
  | 78 => ⟨S32x3x26x26, .i1⟩
  | 79 => ⟨S_, .f32⟩
  | 80 => ⟨S_, .f32⟩
  | 81 => ⟨S32x3x26x26, .f32⟩
  | 82 => ⟨S32x3x26x26, .f32⟩
  | 83 => ⟨S32x3x26x26, .f32⟩
  | 84 => ⟨S_, .f32⟩
  | 85 => ⟨S32x3x26x26, .f32⟩
  | 86 => ⟨S32x3x26x26, .i1⟩
  | 87 => ⟨S_, .f32⟩
  | 88 => ⟨S32x3x26x26, .f32⟩
  | 89 => ⟨S32x3x26x26, .f32⟩
  | 90 => ⟨S_, .f32⟩
  | 91 => ⟨S_, .f32⟩
  | 92 => ⟨S32x3x26x26, .f32⟩
  | 93 => ⟨S32x3x26x26, .f32⟩
  | 94 => ⟨S32x3x26x26, .f32⟩
  | 95 => ⟨S32x3x26x26, .f32⟩
  | 96 => ⟨S32x3x26x26, .f32⟩
  | 97 => ⟨S_, .f32⟩
  | 98 => ⟨S32x3x26x26, .f32⟩
  | 99 => ⟨S32x3x26x26, .f32⟩
  | 100 => ⟨S_, .f32⟩
  | 101 => ⟨S32x3x26x26, .f32⟩
  | 102 => ⟨S32x3x26x26, .f32⟩
  | 103 => ⟨S_, .f32⟩
  | 104 => ⟨S32x3x26x26x90, .f32⟩
  | 105 => ⟨S32x3x26x26x90, .i1⟩
  | 106 => ⟨S_, .f32⟩
  | 107 => ⟨S_, .f32⟩
  | 108 => ⟨S32x3x26x26x90, .f32⟩
  | 109 => ⟨S32x3x26x26x90, .f32⟩
  | 110 => ⟨S32x3x26x26x90, .f32⟩
  | 111 => ⟨S_, .f32⟩
  | 112 => ⟨S32x3x26x26x90, .f32⟩
  | 113 => ⟨S32x3x26x26x90, .i1⟩
  | 114 => ⟨S_, .f32⟩
  | 115 => ⟨S32x3x26x26x90, .f32⟩
  | 116 => ⟨S32x3x26x26x90, .f32⟩
  | 117 => ⟨S_, .f32⟩
  | 118 => ⟨S_, .f32⟩
  | 119 => ⟨S32x3x26x26x90, .f32⟩
  | 120 => ⟨S32x3x26x26x90, .f32⟩
  | 121 => ⟨S32x3x26x26x90, .f32⟩
  | 122 => ⟨S_, .f32⟩
  | 123 => ⟨S32x3x26x26x90, .f32⟩
  | 124 => ⟨S32x3x26x26x90, .f32⟩
  | 125 => ⟨S_, .f32⟩
  | 126 => ⟨S32x3x26x26x90, .f32⟩
  | 127 => ⟨S32x3x26x26x90, .f32⟩
  | _ => ⟨S32x3x26x26x95, .f32⟩

abbrev hbmTy0_3 (i : Nat) : BufTy := match i % 128 with
  | 0 => ⟨S_, .f32⟩
  | 1 => ⟨S32x3x26x26x90, .f32⟩
  | 2 => ⟨S32x3x26x26x90, .i1⟩
  | 3 => ⟨S_, .f32⟩
  | 4 => ⟨S_, .f32⟩
  | 5 => ⟨S32x3x26x26x90, .f32⟩
  | 6 => ⟨S32x3x26x26x90, .f32⟩
  | 7 => ⟨S32x3x26x26x90, .f32⟩
  | 8 => ⟨S_, .f32⟩
  | 9 => ⟨S32x3x26x26x90, .f32⟩
  | 10 => ⟨S32x3x26x26x90, .i1⟩
  | 11 => ⟨S_, .f32⟩
  | 12 => ⟨S32x3x26x26x90, .f32⟩
  | 13 => ⟨S32x3x26x26x90, .f32⟩
  | 14 => ⟨S_, .f32⟩
  | 15 => ⟨S_, .f32⟩
  | 16 => ⟨S32x3x26x26x90, .f32⟩
  | 17 => ⟨S32x3x26x26x90, .f32⟩
  | 18 => ⟨S32x3x26x26x90, .f32⟩
  | 19 => ⟨S32x3x26x26x90, .f32⟩
  | 20 => ⟨S32x3x26x26x90, .f32⟩
  | 21 => ⟨S_, .f32⟩
  | 22 => ⟨S32x3x26x26x90, .f32⟩
  | 23 => ⟨S32x3x26x26x90, .f32⟩
  | 24 => ⟨S_, .f32⟩
  | 25 => ⟨S32x3x26x26, .f32⟩
  | 26 => ⟨S32x3x26x26, .f32⟩
  | 27 => ⟨S32x3x26x26, .f32⟩
  | 28 => ⟨S32x3x26x26, .f32⟩
  | 29 => ⟨S32x3x26x26, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | _ => ⟨S32x3x26x26x95, .f32⟩

abbrev hbmTy (i : Nat) : BufTy := match i / 128 with
  | 0 => hbmTy0_0 i
  | 1 => hbmTy0_1 i
  | 2 => hbmTy0_2 i
  | 3 => hbmTy0_3 i
  | _ => ⟨S32x3x26x26x95, .f32⟩

abbrev bufTy : (tb : Table) → Fin (tcTables nBuf tb) → BufTy
  | .hbm, ⟨i, _⟩ => hbmTy i
  | _, _ => ⟨S32x3x26x26x95, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call2_v0 : Ref sig .tc := ⟨.hbm, 32, rfl⟩
abbrev main_call2_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_call3_v0 : Ref sig .tc := ⟨.hbm, 41, rfl⟩
abbrev main_call3_v1 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_19 : Ref sig .tc := ⟨.hbm, 106, rfl⟩
abbrev main_v75 : Ref sig .tc := ⟨.hbm, 107, rfl⟩
abbrev main_v76 : Ref sig .tc := ⟨.hbm, 108, rfl⟩
abbrev main_c_20 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_21 : Ref sig .tc := ⟨.hbm, 113, rfl⟩
abbrev main_v80 : Ref sig .tc := ⟨.hbm, 114, rfl⟩
abbrev main_v81 : Ref sig .tc := ⟨.hbm, 115, rfl⟩
abbrev main_c_22 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_23 : Ref sig .tc := ⟨.hbm, 120, rfl⟩
abbrev main_v85 : Ref sig .tc := ⟨.hbm, 121, rfl⟩
abbrev main_v86 : Ref sig .tc := ⟨.hbm, 122, rfl⟩
abbrev main_c_24 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_25 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_26 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_27 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_28 : Ref sig .tc := ⟨.hbm, 157, rfl⟩
abbrev main_v117 : Ref sig .tc := ⟨.hbm, 158, rfl⟩
abbrev main_cst_29 : Ref sig .tc := ⟨.hbm, 159, rfl⟩
abbrev main_v118 : Ref sig .tc := ⟨.hbm, 160, rfl⟩
abbrev main_cst_30 : Ref sig .tc := ⟨.hbm, 161, rfl⟩
abbrev main_v119 : Ref sig .tc := ⟨.hbm, 162, rfl⟩
abbrev main_v120 : Ref sig .tc := ⟨.hbm, 163, rfl⟩
abbrev main_cst_31 : Ref sig .tc := ⟨.hbm, 164, rfl⟩
abbrev main_v121 : Ref sig .tc := ⟨.hbm, 165, rfl⟩
abbrev main_cst_32 : Ref sig .tc := ⟨.hbm, 166, rfl⟩
abbrev main_v122 : Ref sig .tc := ⟨.hbm, 167, rfl⟩
abbrev main_cst_33 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_34 : Ref sig .tc := ⟨.hbm, 175, rfl⟩
abbrev main_v129 : Ref sig .tc := ⟨.hbm, 176, rfl⟩
abbrev main_v130 : Ref sig .tc := ⟨.hbm, 177, rfl⟩
abbrev main_cst_35 : Ref sig .tc := ⟨.hbm, 178, rfl⟩
abbrev main_v131 : Ref sig .tc := ⟨.hbm, 179, rfl⟩
abbrev main_v132 : Ref sig .tc := ⟨.hbm, 180, rfl⟩
abbrev main_cst_36 : Ref sig .tc := ⟨.hbm, 181, rfl⟩
abbrev main_v133 : Ref sig .tc := ⟨.hbm, 182, rfl⟩
abbrev main_v134 : Ref sig .tc := ⟨.hbm, 183, rfl⟩
abbrev main_cst_37 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_38 : Ref sig .tc := ⟨.hbm, 194, rfl⟩
abbrev main_v144 : Ref sig .tc := ⟨.hbm, 195, rfl⟩
abbrev main_v145 : Ref sig .tc := ⟨.hbm, 196, rfl⟩
abbrev main_cst_39 : Ref sig .tc := ⟨.hbm, 197, rfl⟩
abbrev main_v146 : Ref sig .tc := ⟨.hbm, 198, rfl⟩
abbrev main_v147 : Ref sig .tc := ⟨.hbm, 199, rfl⟩
abbrev main_cst_40 : Ref sig .tc := ⟨.hbm, 200, rfl⟩
abbrev main_v148 : Ref sig .tc := ⟨.hbm, 201, rfl⟩
abbrev main_v149 : Ref sig .tc := ⟨.hbm, 202, rfl⟩
abbrev main_cst_41 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_cst_42 : Ref sig .tc := ⟨.hbm, 223, rfl⟩
abbrev main_v169 : Ref sig .tc := ⟨.hbm, 224, rfl⟩
abbrev main_v170 : Ref sig .tc := ⟨.hbm, 225, rfl⟩
abbrev main_cst_43 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_44 : Ref sig .tc := ⟨.hbm, 232, rfl⟩
abbrev main_v176 : Ref sig .tc := ⟨.hbm, 233, rfl⟩
abbrev main_v177 : Ref sig .tc := ⟨.hbm, 234, rfl⟩
abbrev main_cst_45 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_cst_46 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_cst_47 : Ref sig .tc := ⟨.hbm, 257, rfl⟩
abbrev main_v198 : Ref sig .tc := ⟨.hbm, 258, rfl⟩
abbrev main_v199 : Ref sig .tc := ⟨.hbm, 259, rfl⟩
abbrev main_cst_48 : Ref sig .tc := ⟨.hbm, 260, rfl⟩
abbrev main_call4_v0 : Ref sig .tc := ⟨.hbm, 261, rfl⟩
abbrev main_call4_v1 : Ref sig .tc := ⟨.hbm, 262, rfl⟩
abbrev main_v200 : Ref sig .tc := ⟨.hbm, 263, rfl⟩
abbrev main_v201 : Ref sig .tc := ⟨.hbm, 264, rfl⟩
abbrev main_cst_49 : Ref sig .tc := ⟨.hbm, 265, rfl⟩
abbrev main_v202 : Ref sig .tc := ⟨.hbm, 266, rfl⟩
abbrev main_v203 : Ref sig .tc := ⟨.hbm, 267, rfl⟩
abbrev main_cst_50 : Ref sig .tc := ⟨.hbm, 268, rfl⟩
abbrev main_v204 : Ref sig .tc := ⟨.hbm, 269, rfl⟩
abbrev main_v205 : Ref sig .tc := ⟨.hbm, 270, rfl⟩
abbrev main_cst_51 : Ref sig .tc := ⟨.hbm, 271, rfl⟩
abbrev main_call5_v0 : Ref sig .tc := ⟨.hbm, 272, rfl⟩
abbrev main_call5_v1 : Ref sig .tc := ⟨.hbm, 273, rfl⟩
abbrev main_v206 : Ref sig .tc := ⟨.hbm, 274, rfl⟩
abbrev main_v207 : Ref sig .tc := ⟨.hbm, 275, rfl⟩
abbrev main_cst_52 : Ref sig .tc := ⟨.hbm, 276, rfl⟩
abbrev main_v208 : Ref sig .tc := ⟨.hbm, 277, rfl⟩
abbrev main_v209 : Ref sig .tc := ⟨.hbm, 278, rfl⟩
abbrev main_cst_53 : Ref sig .tc := ⟨.hbm, 279, rfl⟩
abbrev main_v210 : Ref sig .tc := ⟨.hbm, 280, rfl⟩
abbrev main_v211 : Ref sig .tc := ⟨.hbm, 281, rfl⟩
abbrev main_cst_54 : Ref sig .tc := ⟨.hbm, 282, rfl⟩
abbrev main_v212 : Ref sig .tc := ⟨.hbm, 283, rfl⟩
abbrev main_v213 : Ref sig .tc := ⟨.hbm, 284, rfl⟩
abbrev main_cst_55 : Ref sig .tc := ⟨.hbm, 285, rfl⟩
abbrev main_call6_v0 : Ref sig .tc := ⟨.hbm, 286, rfl⟩
abbrev main_call6_v1 : Ref sig .tc := ⟨.hbm, 287, rfl⟩
abbrev main_v214 : Ref sig .tc := ⟨.hbm, 288, rfl⟩
abbrev main_v215 : Ref sig .tc := ⟨.hbm, 289, rfl⟩
abbrev main_cst_56 : Ref sig .tc := ⟨.hbm, 290, rfl⟩
abbrev main_v216 : Ref sig .tc := ⟨.hbm, 291, rfl⟩
abbrev main_v217 : Ref sig .tc := ⟨.hbm, 292, rfl⟩
abbrev main_cst_57 : Ref sig .tc := ⟨.hbm, 293, rfl⟩
abbrev main_v218 : Ref sig .tc := ⟨.hbm, 294, rfl⟩
abbrev main_v219 : Ref sig .tc := ⟨.hbm, 295, rfl⟩
abbrev main_cst_58 : Ref sig .tc := ⟨.hbm, 296, rfl⟩
abbrev main_call7_v0 : Ref sig .tc := ⟨.hbm, 297, rfl⟩
abbrev main_call7_v1 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_cst_59 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_cst_60 : Ref sig .tc := ⟨.hbm, 307, rfl⟩
abbrev main_v227 : Ref sig .tc := ⟨.hbm, 308, rfl⟩
abbrev main_v228 : Ref sig .tc := ⟨.hbm, 309, rfl⟩
abbrev main_cst_61 : Ref sig .tc := ⟨.hbm, 310, rfl⟩
abbrev main_call8_v0 : Ref sig .tc := ⟨.hbm, 311, rfl⟩
abbrev main_call8_v1 : Ref sig .tc := ⟨.hbm, 312, rfl⟩
abbrev main_v229 : Ref sig .tc := ⟨.hbm, 313, rfl⟩
abbrev main_v230 : Ref sig .tc := ⟨.hbm, 314, rfl⟩
abbrev main_cst_62 : Ref sig .tc := ⟨.hbm, 315, rfl⟩
abbrev main_v231 : Ref sig .tc := ⟨.hbm, 316, rfl⟩
abbrev main_v232 : Ref sig .tc := ⟨.hbm, 317, rfl⟩
abbrev main_cst_63 : Ref sig .tc := ⟨.hbm, 318, rfl⟩
abbrev main_v233 : Ref sig .tc := ⟨.hbm, 319, rfl⟩
abbrev main_v234 : Ref sig .tc := ⟨.hbm, 320, rfl⟩
abbrev main_cst_64 : Ref sig .tc := ⟨.hbm, 321, rfl⟩
abbrev main_call9_v0 : Ref sig .tc := ⟨.hbm, 322, rfl⟩
abbrev main_call9_v1 : Ref sig .tc := ⟨.hbm, 323, rfl⟩
abbrev main_v235 : Ref sig .tc := ⟨.hbm, 324, rfl⟩
abbrev main_v236 : Ref sig .tc := ⟨.hbm, 325, rfl⟩
abbrev main_cst_65 : Ref sig .tc := ⟨.hbm, 326, rfl⟩
abbrev main_v237 : Ref sig .tc := ⟨.hbm, 327, rfl⟩
abbrev main_v238 : Ref sig .tc := ⟨.hbm, 328, rfl⟩
abbrev main_cst_66 : Ref sig .tc := ⟨.hbm, 329, rfl⟩
abbrev main_v239 : Ref sig .tc := ⟨.hbm, 330, rfl⟩
abbrev main_v240 : Ref sig .tc := ⟨.hbm, 331, rfl⟩
abbrev main_cst_67 : Ref sig .tc := ⟨.hbm, 332, rfl⟩
abbrev main_v241 : Ref sig .tc := ⟨.hbm, 333, rfl⟩
abbrev main_v242 : Ref sig .tc := ⟨.hbm, 334, rfl⟩
abbrev main_cst_68 : Ref sig .tc := ⟨.hbm, 335, rfl⟩
abbrev main_call10_v0 : Ref sig .tc := ⟨.hbm, 336, rfl⟩
abbrev main_call10_v1 : Ref sig .tc := ⟨.hbm, 337, rfl⟩
abbrev main_v243 : Ref sig .tc := ⟨.hbm, 338, rfl⟩
abbrev main_v244 : Ref sig .tc := ⟨.hbm, 339, rfl⟩
abbrev main_cst_69 : Ref sig .tc := ⟨.hbm, 340, rfl⟩
abbrev main_v245 : Ref sig .tc := ⟨.hbm, 341, rfl⟩
abbrev main_v246 : Ref sig .tc := ⟨.hbm, 342, rfl⟩
abbrev main_cst_70 : Ref sig .tc := ⟨.hbm, 343, rfl⟩
abbrev main_v247 : Ref sig .tc := ⟨.hbm, 344, rfl⟩
abbrev main_v248 : Ref sig .tc := ⟨.hbm, 345, rfl⟩
abbrev main_cst_71 : Ref sig .tc := ⟨.hbm, 346, rfl⟩
abbrev main_call11_v0 : Ref sig .tc := ⟨.hbm, 347, rfl⟩
abbrev main_call11_v1 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_cst_72 : Ref sig .tc := ⟨.hbm, 353, rfl⟩
abbrev main_v253 : Ref sig .tc := ⟨.hbm, 354, rfl⟩
abbrev main_v254 : Ref sig .tc := ⟨.hbm, 355, rfl⟩
abbrev main_cst_73 : Ref sig .tc := ⟨.hbm, 356, rfl⟩
abbrev main_v255 : Ref sig .tc := ⟨.hbm, 357, rfl⟩
abbrev main_v256 : Ref sig .tc := ⟨.hbm, 358, rfl⟩
abbrev main_cst_74 : Ref sig .tc := ⟨.hbm, 359, rfl⟩
abbrev main_v257 : Ref sig .tc := ⟨.hbm, 360, rfl⟩
abbrev main_v258 : Ref sig .tc := ⟨.hbm, 361, rfl⟩
abbrev main_cst_75 : Ref sig .tc := ⟨.hbm, 362, rfl⟩
abbrev main_call12_v0 : Ref sig .tc := ⟨.hbm, 363, rfl⟩
abbrev main_call12_v1 : Ref sig .tc := ⟨.hbm, 364, rfl⟩
abbrev main_v259 : Ref sig .tc := ⟨.hbm, 365, rfl⟩
abbrev main_v260 : Ref sig .tc := ⟨.hbm, 366, rfl⟩
abbrev main_cst_76 : Ref sig .tc := ⟨.hbm, 367, rfl⟩
abbrev main_v261 : Ref sig .tc := ⟨.hbm, 368, rfl⟩
abbrev main_v262 : Ref sig .tc := ⟨.hbm, 369, rfl⟩
abbrev main_cst_77 : Ref sig .tc := ⟨.hbm, 370, rfl⟩
abbrev main_v263 : Ref sig .tc := ⟨.hbm, 371, rfl⟩
abbrev main_v264 : Ref sig .tc := ⟨.hbm, 372, rfl⟩
abbrev main_cst_78 : Ref sig .tc := ⟨.hbm, 373, rfl⟩
abbrev main_call13_v0 : Ref sig .tc := ⟨.hbm, 374, rfl⟩
abbrev main_call13_v1 : Ref sig .tc := ⟨.hbm, 375, rfl⟩
abbrev main_v265 : Ref sig .tc := ⟨.hbm, 376, rfl⟩
abbrev main_v266 : Ref sig .tc := ⟨.hbm, 377, rfl⟩
abbrev main_cst_79 : Ref sig .tc := ⟨.hbm, 378, rfl⟩
abbrev main_v267 : Ref sig .tc := ⟨.hbm, 379, rfl⟩
abbrev main_v268 : Ref sig .tc := ⟨.hbm, 380, rfl⟩
abbrev main_cst_80 : Ref sig .tc := ⟨.hbm, 381, rfl⟩
abbrev main_v269 : Ref sig .tc := ⟨.hbm, 382, rfl⟩
abbrev main_v270 : Ref sig .tc := ⟨.hbm, 383, rfl⟩
abbrev main_cst_81 : Ref sig .tc := ⟨.hbm, 384, rfl⟩
abbrev main_v271 : Ref sig .tc := ⟨.hbm, 385, rfl⟩
abbrev main_v272 : Ref sig .tc := ⟨.hbm, 386, rfl⟩
abbrev main_cst_82 : Ref sig .tc := ⟨.hbm, 387, rfl⟩
abbrev main_call14_v0 : Ref sig .tc := ⟨.hbm, 388, rfl⟩
abbrev main_call14_v1 : Ref sig .tc := ⟨.hbm, 389, rfl⟩
abbrev main_v273 : Ref sig .tc := ⟨.hbm, 390, rfl⟩
abbrev main_v274 : Ref sig .tc := ⟨.hbm, 391, rfl⟩
abbrev main_cst_83 : Ref sig .tc := ⟨.hbm, 392, rfl⟩
abbrev main_v275 : Ref sig .tc := ⟨.hbm, 393, rfl⟩
abbrev main_v276 : Ref sig .tc := ⟨.hbm, 394, rfl⟩
abbrev main_cst_84 : Ref sig .tc := ⟨.hbm, 395, rfl⟩
abbrev main_v277 : Ref sig .tc := ⟨.hbm, 396, rfl⟩
abbrev main_v278 : Ref sig .tc := ⟨.hbm, 397, rfl⟩
abbrev main_cst_85 : Ref sig .tc := ⟨.hbm, 398, rfl⟩
abbrev main_call15_v0 : Ref sig .tc := ⟨.hbm, 399, rfl⟩
abbrev main_call15_v1 : Ref sig .tc := ⟨.hbm, 400, rfl⟩
abbrev main_v279 : Ref sig .tc := ⟨.hbm, 401, rfl⟩
abbrev main_v280 : Ref sig .tc := ⟨.hbm, 402, rfl⟩
abbrev main_v281 : Ref sig .tc := ⟨.hbm, 403, rfl⟩
abbrev main_v282 : Ref sig .tc := ⟨.hbm, 404, rfl⟩
abbrev main_cst_86 : Ref sig .tc := ⟨.hbm, 405, rfl⟩
abbrev main_v283 : Ref sig .tc := ⟨.hbm, 406, rfl⟩
abbrev main_v284 : Ref sig .tc := ⟨.hbm, 407, rfl⟩
abbrev main_cst_87 : Ref sig .tc := ⟨.hbm, 408, rfl⟩
abbrev main_v285 : Ref sig .tc := ⟨.hbm, 409, rfl⟩
abbrev main_v286 : Ref sig .tc := ⟨.hbm, 410, rfl⟩
abbrev main_v287 : Ref sig .tc := ⟨.hbm, 411, rfl⟩
abbrev main_v288 : Ref sig .tc := ⟨.hbm, 412, rfl⟩
abbrev main_v289 : Ref sig .tc := ⟨.hbm, 413, rfl⟩
abbrev main_cst_88 : Ref sig .tc := ⟨.hbm, 414, rfl⟩
abbrev main_v290 : Ref sig .tc := ⟨.hbm, 415, rfl⟩
abbrev main_cst_89 : Ref sig .tc := ⟨.hbm, 416, rfl⟩
abbrev main_v291 : Ref sig .tc := ⟨.hbm, 417, rfl⟩
abbrev main_cst_90 : Ref sig .tc := ⟨.hbm, 418, rfl⟩
abbrev main_v292 : Ref sig .tc := ⟨.hbm, 419, rfl⟩
abbrev main_cst_91 : Ref sig .tc := ⟨.hbm, 420, rfl⟩
abbrev main_v293 : Ref sig .tc := ⟨.hbm, 421, rfl⟩
abbrev main_cst_92 : Ref sig .tc := ⟨.hbm, 422, rfl⟩
abbrev main_v294 : Ref sig .tc := ⟨.hbm, 423, rfl⟩
abbrev main_cst_93 : Ref sig .tc := ⟨.hbm, 424, rfl⟩
abbrev main_v295 : Ref sig .tc := ⟨.hbm, 425, rfl⟩
abbrev main_cst_94 : Ref sig .tc := ⟨.hbm, 426, rfl⟩
abbrev main_v296 : Ref sig .tc := ⟨.hbm, 427, rfl⟩
abbrev main_v297 : Ref sig .tc := ⟨.hbm, 428, rfl⟩
abbrev main_cst_95 : Ref sig .tc := ⟨.hbm, 429, rfl⟩
abbrev main_v298 : Ref sig .tc := ⟨.hbm, 430, rfl⟩
abbrev main_v299 : Ref sig .tc := ⟨.hbm, 431, rfl⟩
abbrev main_cst_96 : Ref sig .tc := ⟨.hbm, 432, rfl⟩
abbrev main_v300 : Ref sig .tc := ⟨.hbm, 433, rfl⟩
abbrev main_v301 : Ref sig .tc := ⟨.hbm, 434, rfl⟩
abbrev main_cst_97 : Ref sig .tc := ⟨.hbm, 435, rfl⟩
abbrev main_v302 : Ref sig .tc := ⟨.hbm, 436, rfl⟩
abbrev main_v303 : Ref sig .tc := ⟨.hbm, 437, rfl⟩

abbrev nD : Nat := 1
abbrev τ : Topo := Topo.v7x

variable {F : FTy → Type} [FloatOps F]
-- ==== Proof.Region0.lean ====
/- What the first pallas_call leaves: its running block after each grid point and its gathered cells, read off the
   generated run, and the two arrays the call writes. -/
module

public import proofs.«01_k».proof.Proof.Gen.KernelIdeal.Frame
public import Idealize.ShloMosaic.Lib.Pipeline.Value
public import Idealize.ShloMosaic.Lib.Pipeline.ValueKit
public import Idealize.ShloMosaic.Lib.Tactic

@[expose] public section

noncomputable section

namespace Cert.Loss

open Cert.KernelIdeal Cert.KernelIdeal.Gen Idealize.ShloMosaic Idealize.ShloMosaic.TcCoe Idealize.SL.Sem

variable {F : FTy → Type} [FloatOps F]

/-- The confidence logits of a block of eight images: entry 4 of every cell. -/
abbrev confOf (x : Vec F S8x3x26x26x95 .f32) : Vec F S8x3x26x26x1 .f32 :=
  View.ld x (Rect.unit (s := S8x3x26x26x95) ![0, 0, 0, 0, 4] S8x3x26x26x1.size inb_S8x3x26x26x95_S8x3x26x26x1_0_0_0_0_4)

/-- The 27 cells at the low corner of the three grids of a block of eight images. -/
abbrev lowOf (x : Vec F S8x3x26x26x95 .f32) : Vec F S8x3x3x3x95 .f32 :=
  View.ld x (Rect.unit (s := S8x3x26x26x95) ![0, 0, 0, 0, 0] S8x3x3x3x95.size inb_S8x3x26x26x95_S8x3x3x3x95_0_0_0_0_0)

/-- The one cell at the far corner of the last grid of a block of eight images. -/
abbrev farOf (x : Vec F S8x3x26x26x95 .f32) : Vec F S8x1x1x1x95 .f32 :=
  View.ld x (Rect.unit (s := S8x3x26x26x95) ![0, 2, 25, 25, 0] S8x1x1x1x95.size inb_S8x3x26x26x95_S8x1x1x1x95_0_2_25_25_0)

/-- At the first point the running block is the zero block plus the block's own sum. -/
theorem sum_first (c : Dev nD) (i : grid0.Coords) (a1 : Memref sig .tc .vmem S8x3x26x26x95 .f32) (h1 : a1.IsWhole)
    (a2 : Memref sig .tc .vmem S1x8 .f32) (h2 : a2.IsWhole) (a3 : Memref sig .tc .vmem S1x8x28x95 .f32) (h3 : a3.IsWhole)
    (hc : cond0_0 i) (x : Vec F S8x3x26x26x95 .f32) :
    out0_A_1 c i a1 h1 a2 h2 a3 h3 hc x = k0_pay3 (confOf x) k0_pay2 := by
  frame_out

/-- At a later point the block's own sum is added to what the point before left. -/
theorem sum_next (c : Dev nD) (i : grid0.Coords) (a1 : Memref sig .tc .vmem S8x3x26x26x95 .f32) (h1 : a1.IsWhole)
    (a2 : Memref sig .tc .vmem S1x8 .f32) (h2 : a2.IsWhole) (a3 : Memref sig .tc .vmem S1x8x28x95 .f32) (h3 : a3.IsWhole)
    (hc : ¬cond0_0 i) (x : Vec F S8x3x26x26x95 .f32) (xo : Vec F S1x8 .f32) :
    out0_B_1 c i a1 h1 a2 h2 a3 h3 hc x xo = k0_pay3 (confOf x) xo := by
  frame_out

/-- At the first point the gathered cells are the block's 28 cells. -/
theorem cells_first (c : Dev nD) (i : grid0.Coords) (a1 : Memref sig .tc .vmem S8x3x26x26x95 .f32) (h1 : a1.IsWhole)
    (a2 : Memref sig .tc .vmem S1x8 .f32) (h2 : a2.IsWhole) (a3 : Memref sig .tc .vmem S1x8x28x95 .f32) (h3 : a3.IsWhole)
    (hc : cond0_0 i) (x : Vec F S8x3x26x26x95 .f32) :
    out0_A_2 c i a1 h1 a2 h2 a3 h3 hc x = k0_pay1 (k0_pay4 (lowOf x)) (farOf x) := by
  frame_out

/-- At a later point too. -/
theorem cells_next (c : Dev nD) (i : grid0.Coords) (a1 : Memref sig .tc .vmem S8x3x26x26x95 .f32) (h1 : a1.IsWhole)
    (a2 : Memref sig .tc .vmem S1x8 .f32) (h2 : a2.IsWhole) (a3 : Memref sig .tc .vmem S1x8x28x95 .f32) (h3 : a3.IsWhole)
    (hc : ¬cond0_0 i) (x : Vec F S8x3x26x26x95 .f32) (xo : Vec F S1x8 .f32) :
    out0_B_2 c i a1 h1 a2 h2 a3 h3 hc x xo = k0_pay1 (k0_pay4 (lowOf x)) (farOf x) := by
  frame_out

variable (V : (c : Dev nD) → (b : Ref sig .tc) → Buf (Elt F) ((c : Thread nD τ).loc b))

/-- The gathered cells after any point. -/
theorem cells_at (c : Dev nD) (t : Fin cfg0.N) :
    (outsAt0 V c t.val t.isLt).2 = k0_pay1 (k0_pay4 (lowOf (iblk0 V c 0 t))) (farOf (iblk0 V c 0 t)) := by
  by_cases h : t.val % 4 = 0
  · rw [outsAt0_A V c t h]; dsimp only; exact cells_first ..
  · rw [outsAt0_B V c t h]; dsimp only; exact cells_next ..

/-- The running sum over the blocks of eight images, in grid order. -/
def running (c : Dev nD) : (n : ℕ) → n < cfg0.N → Vec F S1x8 .f32
  | 0, h => k0_pay3 (confOf (iblk0 V c 0 ⟨0, h⟩)) k0_pay2
  | n + 1, h => k0_pay3 (confOf (iblk0 V c 0 ⟨n + 1, h⟩)) (running c n (Nat.lt_of_succ_lt h))

/-- The running block after any point is the running sum. -/
theorem sum_at (c : Dev nD) : ∀ (n : ℕ) (h : n < cfg0.N), (outsAt0 V c n h).1 = running V c n h
  | 0, h => by
    rw [outsAt0_A V c ⟨0, h⟩ rfl]; dsimp only
    exact sum_first ..
  | n + 1, h => by
    have hN : cfg0.N = 4 := N_0
    have hB : ¬(⟨n + 1, h⟩ : Fin cfg0.N).val % 4 = 0 := by dsimp only; omega
    rw [outsAt0_B V c ⟨n + 1, h⟩ hB]; dsimp only
    rw [sum_next]
    show k0_pay3 _ (outsAt0 V c n _).1 = k0_pay3 _ (running V c n _)
    rw [sum_at c n]

/-- The first array the call writes: the running sum after the last point. -/
theorem sum_array (c : Dev nD) : (dat0 V c).arrAt 1 cfg0.N = running V c 3 (by rw [show cfg0.N = 4 from N_0]; decide) := by
  refine (dat0 V c).arrAt_eq_of_after_last 1 t0_3 (by decide +kernel) _ fun j => ?_
  blk_simp
  rw [after0_1, sum_at]
  rfl

/-- The block of predictions that a step reads. -/
theorem idx0 : ∀ t : Fin cfg0.N, win0_0.index t = ![t.val, 0, 0, 0, 0] := (by decide +kernel : ∀ t : Fin grid0.N, _)
/-- The block of gathered cells that a step writes. -/
theorem idx2 : ∀ t : Fin cfg0.N, win0_2.index t = ![t.val, 0, 0, 0] := (by decide +kernel : ∀ t : Fin grid0.N, _)

end Cert.Loss

end
-- ==== Proof.Words.lean ====
/- The words of the target rows: which cell a row is assigned to, which row of a cell is the last one, and what the
   largest and the smallest word over the fifty rows say about them. No program is named here. -/
module

public import Idealize.ShloMosaic.Lib.Pointwise
public import Idealize.ShloMosaic.PureOps.Ideal

@[expose] public section

namespace Cert.Loss

open Idealize.ShloMosaic

/-! ## The largest and the smallest of fifty words -/

/-- The signed maximum as an integer. -/
theorem maxsi_int (a b : BitVec 32) : (IntOp.maxsi a b).toInt = max a.toInt b.toInt := by
  unfold IntOp.maxsi
  split
  · next h => rw [BitVec.slt_iff_toInt_lt] at h; omega
  · next h => rw [BitVec.slt_iff_toInt_lt] at h; omega

/-- The signed minimum as an integer. -/
theorem minsi_int (a b : BitVec 32) : (IntOp.minsi a b).toInt = min a.toInt b.toInt := by
  unfold IntOp.minsi
  split
  · next h => rw [BitVec.slt_iff_toInt_lt] at h; omega
  · next h => rw [BitVec.slt_iff_toInt_lt] at h; omega

/-- A fold of the signed maximum reaches every word it meets, and is one of them or the word it began with. -/
theorem fold_max {ι : Type} [DecidableEq ι] (f : ι → BitVec 32) (z : BitVec 32) (s : Finset ι) :
    (∀ t ∈ s, (f t).toInt ≤ (s.fold IntOp.maxsi z f).toInt)
      ∧ ((s.fold IntOp.maxsi z f).toInt = z.toInt ∨ ∃ t ∈ s, (s.fold IntOp.maxsi z f).toInt = (f t).toInt)
      ∧ z.toInt ≤ (s.fold IntOp.maxsi z f).toInt := by
  induction s using Finset.induction_on with
  | empty => simp
  | insert a s ha ih =>
    obtain ⟨h1, h2, h3⟩ := ih
    rw [Finset.fold_insert ha, maxsi_int]
    refine ⟨fun t ht => ?_, ?_, le_trans h3 (le_max_right _ _)⟩
    · rcases Finset.mem_insert.1 ht with rfl | ht
      · exact le_max_left _ _
      · exact le_trans (h1 t ht) (le_max_right _ _)
    · rcases le_total (f a).toInt (s.fold IntOp.maxsi z f).toInt with h | h
      · rw [max_eq_right h]
        rcases h2 with h2 | ⟨t, ht, h2⟩
        · exact .inl h2
        · exact .inr ⟨t, Finset.mem_insert_of_mem ht, h2⟩
      · rw [max_eq_left h]
        exact .inr ⟨a, Finset.mem_insert_self _ _, rfl⟩

/-- A fold of the signed minimum is below every word it meets, and is one of them or the word it began with. -/
theorem fold_min {ι : Type} [DecidableEq ι] (f : ι → BitVec 32) (z : BitVec 32) (s : Finset ι) :
    (∀ t ∈ s, (s.fold IntOp.minsi z f).toInt ≤ (f t).toInt)
      ∧ ((s.fold IntOp.minsi z f).toInt = z.toInt ∨ ∃ t ∈ s, (s.fold IntOp.minsi z f).toInt = (f t).toInt)
      ∧ (s.fold IntOp.minsi z f).toInt ≤ z.toInt := by
  induction s using Finset.induction_on with
  | empty => simp
  | insert a s ha ih =>
    obtain ⟨h1, h2, h3⟩ := ih
    rw [Finset.fold_insert ha, minsi_int]
    refine ⟨fun t ht => ?_, ?_, le_trans (min_le_right _ _) h3⟩
    · rcases Finset.mem_insert.1 ht with rfl | ht
      · exact min_le_left _ _
      · exact le_trans (min_le_right _ _) (h1 t ht)
    · rcases le_total (f a).toInt (s.fold IntOp.minsi z f).toInt with h | h
      · rw [min_eq_left h]
        exact .inr ⟨a, Finset.mem_insert_self _ _, rfl⟩
      · rw [min_eq_right h]
        rcases h2 with h2 | ⟨t, ht, h2⟩
        · exact .inl h2
        · exact .inr ⟨t, Finset.mem_insert_of_mem ht, h2⟩

/-- The largest of fifty words, from the least word there is, is the word that no other exceeds. -/
theorem max50 (f : Fin 50 → BitVec 32) (t : Fin 50) (h : ∀ t', (f t').toInt ≤ (f t).toInt) :
    Finset.univ.fold IntOp.maxsi 2147483648#32 f = f t := by
  obtain ⟨h1, h2, h3⟩ := fold_max f 2147483648#32 Finset.univ
  have e := h1 t (Finset.mem_univ _)
  have hm : (2147483648#32 : BitVec 32).toInt = -2147483648 := by decide
  have hf := BitVec.le_toInt (f t)
  refine BitVec.eq_of_toInt_eq (le_antisymm ?_ e)
  rcases h2 with h2 | ⟨t', -, h2⟩
  · rw [h2, hm]; simpa using hf
  · rw [h2]; exact h t'

/-- The smallest of fifty words, from the greatest word there is, is the word that no other is below. -/
theorem min50 (f : Fin 50 → BitVec 32) (t : Fin 50) (h : ∀ t', (f t).toInt ≤ (f t').toInt) :
    Finset.univ.fold IntOp.minsi 2147483647#32 f = f t := by
  obtain ⟨h1, h2, h3⟩ := fold_min f 2147483647#32 Finset.univ
  have e := h1 t (Finset.mem_univ _)
  have hm : (2147483647#32 : BitVec 32).toInt = 2147483647 := by decide
  have hf := BitVec.toInt_le (x := f t)
  refine BitVec.eq_of_toInt_eq (le_antisymm e ?_)
  rcases h2 with h2 | ⟨t', -, h2⟩
  · rw [h2, hm]; simpa using hf
  · rw [h2]; exact h t'

/-! ## The last row with a property -/

/-- Row `t` has the property and no later row has it. -/
def Last (p : Fin 50 → Prop) (t : Fin 50) : Prop := p t ∧ ∀ t', t < t' → ¬p t'

/-- Either no row has the property or one of them is the last that has it. -/
theorem exists_last (p : Fin 50 → Prop) : (∀ t, ¬p t) ∨ ∃ t, Last p t := by
  classical
  by_cases h : ∃ t, p t
  · refine .inr ?_
    have hne : (Finset.univ.filter p).Nonempty := by obtain ⟨t, ht⟩ := h; exact ⟨t, by simpa using ht⟩
    refine ⟨(Finset.univ.filter p).max' hne, ?_, fun t' ht' hp => ?_⟩
    · simpa using (Finset.univ.filter p).max'_mem hne
    · have := (Finset.univ.filter p).le_max' t' (by simpa using hp)
      exact absurd ht' (not_lt.2 this)
  · exact .inl fun t ht => h ⟨t, ht⟩

/-- There is one last row only. -/
theorem last_unique {p : Fin 50 → Prop} {t t' : Fin 50} (h : Last p t) (h' : Last p t') : t = t' := by
  rcases lt_trichotomy t t' with e | e | e
  · exact absurd h'.1 (h.2 _ e)
  · exact e
  · exact absurd h.1 (h'.2 _ e)

/-! ## The rows of a batch of targets -/

/-- The fields of the fifty rows of each of the 32 images. -/
abbrev Rows := Fin 32 → Fin 50 → Fin 9 → BitVec 32

/-- Every field is 0, 1 or 2. -/
def InRange (T : Rows) : Prop := ∀ b t f, (T b t f).toNat < 3

/-- Row `t` names a box: its class is not 0 and its scale is this grid's. -/
def Valid (T : Rows) (b : Fin 32) (t : Fin 50) : Prop := T b t 0 ≠ 0#32 ∧ T b t 5 = 1#32

instance (T : Rows) (b : Fin 32) (t : Fin 50) : Decidable (Valid T b t) := by unfold Valid; infer_instance

/-- The number of the cell that row `t` is written to: anchor, row and column of a box, the far cell otherwise. -/
def cellNo (T : Rows) (b : Fin 32) (t : Fin 50) : ℕ :=
  if Valid T b t then 9 * (T b t 6).toNat + 3 * (T b t 8).toNat + (T b t 7).toNat else 27

/-- A row that names a box is written to one of the first 27 cells. -/
theorem cellNo_lt (T : Rows) (h : InRange T) (b : Fin 32) (t : Fin 50) : Valid T b t ↔ cellNo T b t < 27 := by
  unfold cellNo
  have h6 := h b t 6; have h7 := h b t 7; have h8 := h b t 8
  split <;> rename_i hv
  · exact ⟨fun _ => by omega, fun _ => hv⟩
  · exact ⟨fun q => absurd q hv, fun q => absurd q (by omega)⟩

/-- A row is written to one of the 28 cells. -/
theorem cellNo_lt28 (T : Rows) (h : InRange T) (b : Fin 32) (t : Fin 50) : cellNo T b t < 28 := by
  by_cases hv : Valid T b t
  · have := (cellNo_lt T h b t).1 hv; omega
  · unfold cellNo; rw [if_neg hv]; omega

/-- The row that cell `c` holds in the end: the last one written to it. -/
def Winner (T : Rows) (b : Fin 32) (c : Fin 28) (t : Fin 50) : Prop := Last (fun t => cellNo T b t = c.val) t

open Classical in
/-- Field `f` of cell `c` after all rows are written: the last row's, 0 where there is none. -/
noncomputable def held (T : Rows) (b : Fin 32) (c : Fin 28) (f : Fin 9) : BitVec 32 :=
  if h : ∃ t, Winner T b c t then T b h.choose f else 0#32

/-- A cell's fields are those of the last row written to it. -/
theorem held_some {T : Rows} {b : Fin 32} {c : Fin 28} {t : Fin 50} (h : Winner T b c t) (f : Fin 9) : held T b c f = T b t f := by
  unfold held
  rw [dif_pos ⟨t, h⟩]
  rw [last_unique (Exists.choose_spec (⟨t, h⟩ : ∃ t, Winner T b c t)) h]

/-- The fields of a cell that no row is written to are 0. -/
theorem held_none {T : Rows} {b : Fin 32} {c : Fin 28} (h : ∀ t, cellNo T b t ≠ c.val) (f : Fin 9) : held T b c f = 0#32 := by
  unfold held
  rw [dif_neg]
  rintro ⟨t, ht⟩
  exact h t ht.1

/-! ## The word that carries a row -/

/-- A row's class and box as one number below 243. -/
def packed (T : Rows) (b : Fin 32) (t : Fin 50) : ℕ :=
  (T b t 1).toNat + 3 * (T b t 2).toNat + 9 * (T b t 3).toNat + 27 * (T b t 4).toNat + 81 * (T b t 0).toNat

/-- Five base-3 digits are less than 243. -/
theorem packed_lt (T : Rows) (h : InRange T) (b : Fin 32) (t : Fin 50) : packed T b t < 243 := by
  unfold packed
  have h0 := h b t 0; have h1 := h b t 1; have h2 := h b t 2; have h3 := h b t 3; have h4 := h b t 4
  omega

/-- The word of row `t`: its number, then the row itself. -/
def carried (T : Rows) (b : Fin 32) (t : Fin 50) : BitVec 32 := BitVec.ofNat 32 (256 * t.val + packed T b t)

/-- A word below 2³¹ read as an integer. -/
theorem int_of_small (x : BitVec 32) (h : x.toNat < 2147483648) : x.toInt = (x.toNat : ℤ) := by
  have e := BitVec.toInt_eq_toNat_cond x
  split at e <;> omega

/-- The word that carries a row, as a natural number. -/
theorem carried_nat (T : Rows) (h : InRange T) (b : Fin 32) (t : Fin 50) : (carried T b t).toNat = 256 * t.val + packed T b t := by
  unfold carried
  have := packed_lt T h b t
  have := t.isLt
  rw [BitVec.toNat_ofNat]; omega

/-- The word that carries a row, as an integer: it is not negative. -/
theorem carried_int (T : Rows) (h : InRange T) (b : Fin 32) (t : Fin 50) : (carried T b t).toInt = ((256 * t.val + packed T b t : ℕ) : ℤ) := by
  have e := carried_nat T h b t
  have := packed_lt T h b t
  have := t.isLt
  rw [int_of_small _ (by omega), e]

/-- The words as the kernel forms them are the carried rows. -/
theorem carried_eq (T : Rows) (h : InRange T) (b : Fin 32) (t : Fin 50) :
    IntOp.addi (IntOp.muli (BitVec.ofNat 32 t.val) 256#32)
      (IntOp.addi (IntOp.addi (IntOp.addi (IntOp.addi (T b t 1) (IntOp.muli 3#32 (T b t 2))) (IntOp.muli 9#32 (T b t 3)))
        (IntOp.muli 27#32 (T b t 4))) (IntOp.muli 81#32 (T b t 0))) = carried T b t := by
  have h0 := h b t 0; have h1 := h b t 1; have h2 := h b t 2; have h3 := h b t 3; have h4 := h b t 4
  have ht := t.isLt
  refine BitVec.eq_of_toNat_eq ?_
  rw [carried_nat T h]
  unfold packed IntOp.addi IntOp.muli
  simp only [BitVec.toNat_add, BitVec.toNat_mul, BitVec.toNat_ofNat]
  omega

/-- The largest word of the rows written to a cell is the carried last row. -/
theorem key_some (T : Rows) (h : InRange T) (b : Fin 32) (c : Fin 28) (t : Fin 50) (hw : Winner T b c t) :
    Finset.univ.fold IntOp.maxsi 2147483648#32 (fun t => if cellNo T b t = c.val then carried T b t else 4294967295#32) = carried T b t := by
  have hn : (4294967295#32 : BitVec 32).toInt = -1 := by decide
  refine (max50 _ t fun t' => ?_).trans (if_pos hw.1)
  simp only [if_pos hw.1]
  rw [carried_int T h]
  split
  · next h' =>
    have hle : t' ≤ t := not_lt.1 fun hlt => hw.2 t' hlt h'
    rcases lt_or_eq_of_le hle with hlt | rfl
    · have := packed_lt T h b t'
      rw [carried_int T h]
      have := Fin.lt_def.1 hlt
      omega
    · rw [carried_int T h]
  · rw [hn]; omega

/-- With no row written to a cell the largest word is minus one. -/
theorem key_none (T : Rows) (b : Fin 32) (c : Fin 28) (hw : ∀ t, cellNo T b t ≠ c.val) :
    Finset.univ.fold IntOp.maxsi 2147483648#32 (fun t => if cellNo T b t = c.val then carried T b t else 4294967295#32) = 4294967295#32 := by
  refine (max50 _ 0 fun t' => ?_).trans (if_neg (hw 0))
  simp only [if_neg (hw t'), if_neg (hw 0)]
  exact le_refl _

/-! ## The classes met in a cell -/

/-- Some row of class `k` that names a box is written to cell `c`. -/
def Met (T : Rows) (b : Fin 32) (c : Fin 28) (k : BitVec 32) : Prop := ∃ t, cellNo T b t = c.val ∧ Valid T b t ∧ T b t 0 = k

/-- A field in range is the same as an integer and as a natural number. -/
theorem small_int (T : Rows) (h : InRange T) (b : Fin 32) (t : Fin 50) (f : Fin 9) :
    (T b t f).toInt = ((T b t f).toNat : ℤ) := int_of_small _ (by have := h b t f; omega)

/-- The smallest class written to a cell is 1 exactly when a row of class 1 is written to it. -/
theorem min_class (T : Rows) (h : InRange T) (b : Fin 32) (c : Fin 28) :
    Finset.univ.fold IntOp.minsi 2147483647#32 (fun t => if cellNo T b t = c.val ∧ Valid T b t then T b t 0 else 3#32) = 1#32 ↔ Met T b c 1#32 := by
  have h3 : (3#32 : BitVec 32).toInt = 3 := by decide
  have h1 : (1#32 : BitVec 32).toInt = 1 := by decide
  constructor
  · intro e
    obtain ⟨-, h2, -⟩ := fold_min (fun t : Fin 50 => if cellNo T b t = c.val ∧ Valid T b t then T b t 0 else 3#32) 2147483647#32 Finset.univ
    rw [e] at h2
    rcases h2 with h2 | ⟨t, -, h2⟩
    · exact absurd h2 (by decide)
    · by_cases ht : cellNo T b t = c.val ∧ Valid T b t
      · simp only [if_pos ht] at h2
        exact ⟨t, ht.1, ht.2, (BitVec.eq_of_toInt_eq h2).symm⟩
      · simp only [if_neg ht] at h2
        exact absurd h2 (by decide)
  · rintro ⟨t, ht, hv, hk⟩
    refine (min50 _ t fun t' => ?_).trans ((if_pos ⟨ht, hv⟩).trans hk)
    simp only [if_pos (⟨ht, hv⟩ : cellNo T b t = c.val ∧ Valid T b t), hk]
    split
    · next h' =>
      have hz : (T b t' 0).toNat ≠ 0 := fun e => h'.2.1 (BitVec.eq_of_toNat_eq (by rw [e]; rfl))
      rw [small_int T h, h1]; omega
    · rw [h3, h1]; omega

/-- The largest class written to a cell is 2 exactly when a row of class 2 is written to it. -/
theorem max_class (T : Rows) (h : InRange T) (b : Fin 32) (c : Fin 28) :
    Finset.univ.fold IntOp.maxsi 2147483648#32 (fun t => if cellNo T b t = c.val ∧ Valid T b t then T b t 0 else 0#32) = 2#32 ↔ Met T b c 2#32 := by
  have h0 : (0#32 : BitVec 32).toInt = 0 := by decide
  have h2' : (2#32 : BitVec 32).toInt = 2 := by decide
  constructor
  · intro e
    obtain ⟨-, h2, -⟩ := fold_max (fun t : Fin 50 => if cellNo T b t = c.val ∧ Valid T b t then T b t 0 else 0#32) 2147483648#32 Finset.univ
    rw [e] at h2
    rcases h2 with h2 | ⟨t, -, h2⟩
    · exact absurd h2 (by decide)
    · by_cases ht : cellNo T b t = c.val ∧ Valid T b t
      · simp only [if_pos ht] at h2
        exact ⟨t, ht.1, ht.2, (BitVec.eq_of_toInt_eq h2).symm⟩
      · simp only [if_neg ht] at h2
        exact absurd h2 (by decide)
  · rintro ⟨t, ht, hv, hk⟩
    refine (max50 _ t fun t' => ?_).trans ((if_pos ⟨ht, hv⟩).trans hk)
    simp only [if_pos (⟨ht, hv⟩ : cellNo T b t = c.val ∧ Valid T b t), hk]
    split
    · have := h b t' 0
      rw [small_int T h, h2']; omega
    · rw [h0, h2']; omega

/-! ## A carried row taken apart -/

/-- The low byte of a carried row is the packed row. -/
theorem low_byte (T : Rows) (h : InRange T) (b : Fin 32) (t : Fin 50) :
    IntOp.andi (carried T b t) 255#32 = BitVec.ofNat 32 (packed T b t) := by
  have hp := packed_lt T h b t
  refine BitVec.eq_of_toNat_eq ?_
  unfold IntOp.andi
  rw [BitVec.toNat_and, carried_nat T h, show (255#32 : BitVec 32).toNat = 2 ^ 8 - 1 from rfl, Nat.and_two_pow_sub_one_eq_mod, BitVec.toNat_ofNat]
  omega

/-- A carried row is not negative. -/
theorem carried_nonneg (T : Rows) (h : InRange T) (b : Fin 32) (t : Fin 50) : IntOp.cmpi .sge (carried T b t) 0#32 = 1#1 := by
  have e := carried_int T h b t
  have : (0#32 : BitVec 32).sle (carried T b t) = true := by
    rw [BitVec.sle_iff_toInt_le, e, show (0#32 : BitVec 32).toInt = 0 from rfl]; omega
  show BitVec.ofBool ((0#32 : BitVec 32).sle (carried T b t)) = 1#1
  rw [this]; rfl

/-- The packed row's digits are the row's fields. -/
theorem packed_digits (T : Rows) (h : InRange T) (b : Fin 32) (t : Fin 50) :
    packed T b t % 3 = (T b t 1).toNat ∧ packed T b t / 3 % 3 = (T b t 2).toNat ∧ packed T b t / 9 % 3 = (T b t 3).toNat
      ∧ packed T b t / 27 % 3 = (T b t 4).toNat ∧ packed T b t / 81 = (T b t 0).toNat := by
  unfold packed
  have h0 := h b t 0; have h1 := h b t 1; have h2 := h b t 2; have h3 := h b t 3; have h4 := h b t 4
  omega

/-! ## The kernel's forms of these words -/

/-- A test for equality as a bit. -/
theorem eq_test (x y : BitVec 32) : IntOp.cmpi .eq x y = if x = y then 1#1 else 0#1 := by
  show BitVec.ofBool (x == y) = _
  by_cases h : x = y
  · rw [if_pos h, beq_iff_eq.2 h]; rfl
  · rw [if_neg h, beq_eq_false_iff_ne.2 h]; rfl

/-- A test for difference as a bit. -/
theorem ne_test (x y : BitVec 32) : IntOp.cmpi .ne x y = if x = y then 0#1 else 1#1 := by
  show BitVec.ofBool (x != y) = _
  by_cases h : x = y
  · rw [if_pos h, bne_eq_false_iff_eq.2 h]; rfl
  · rw [if_neg h, bne_iff_ne.2 h]; rfl

/-- A selection on 1 takes the first. -/
theorem select_one {e : Type} (x y : e) : Scalar.select 1#1 x y = x := rfl

/-- A selection on 0 takes the second. -/
theorem select_zero {e : Type} (x y : e) : Scalar.select 0#1 x y = y := rfl

/-- Whether a row names a box, as the kernel tests it. -/
theorem valid_word (T : Rows) (b : Fin 32) (t : Fin 50) :
    IntOp.andi (IntOp.cmpi .ne (T b t 0) 0#32) (IntOp.cmpi .eq (T b t 5) 1#32) = if Valid T b t then 1#1 else 0#1 := by
  rw [eq_test, ne_test]
  unfold Valid IntOp.andi
  by_cases h0 : T b t 0 = 0#32 <;> by_cases h5 : T b t 5 = 1#32 <;> simp [h0, h5]

/-- A row's cell, as the kernel computes it. -/
theorem cell_word (T : Rows) (h : InRange T) (b : Fin 32) (t : Fin 50) :
    Scalar.select (IntOp.andi (IntOp.cmpi .ne (T b t 0) 0#32) (IntOp.cmpi .eq (T b t 5) 1#32))
      (IntOp.addi (IntOp.addi (IntOp.muli (T b t 6) 9#32) (IntOp.muli (T b t 8) 3#32)) (T b t 7)) 27#32 = BitVec.ofNat 32 (cellNo T b t) := by
  rw [valid_word]
  have h6 := h b t 6; have h7 := h b t 7; have h8 := h b t 8
  unfold cellNo
  by_cases hv : Valid T b t
  · simp only [if_pos hv]
    rw [select_one]
    refine BitVec.eq_of_toNat_eq ?_
    simp only [IntOp.addi, IntOp.muli, BitVec.toNat_add, BitVec.toNat_mul, BitVec.toNat_ofNat]
    omega
  · simp only [if_neg hv]; rfl

/-- Two cell numbers below 28 are the same word only if they are the same number. -/
theorem cell_test (m n : ℕ) (hm : m < 28) (hn : n < 28) :
    IntOp.cmpi .eq (BitVec.ofNat 32 m) (BitVec.ofNat 32 n) = if m = n then 1#1 else 0#1 := by
  rw [eq_test]
  by_cases h : m = n
  · subst h; simp
  · have : BitVec.ofNat 32 m ≠ BitVec.ofNat 32 n := fun e => h (by
      have := congrArg BitVec.toNat e
      simp only [BitVec.toNat_ofNat] at this
      omega)
    simp [h, this]

open Classical in
/-- The word of a cell's last row, minus one where no row is written to it. -/
noncomputable def lastWord (T : Rows) (b : Fin 32) (c : Fin 28) : BitVec 32 :=
  if h : ∃ t, Winner T b c t then carried T b h.choose else 4294967295#32

/-- The word of a cell carries the last row written to it. -/
theorem lastWord_some {T : Rows} {b : Fin 32} {c : Fin 28} {t : Fin 50} (h : Winner T b c t) : lastWord T b c = carried T b t := by
  unfold lastWord
  rw [dif_pos ⟨t, h⟩]
  rw [last_unique (Exists.choose_spec (⟨t, h⟩ : ∃ t, Winner T b c t)) h]

/-- The word of a cell that no row is written to is -1. -/
theorem lastWord_none {T : Rows} {b : Fin 32} {c : Fin 28} (h : ∀ t, cellNo T b t ≠ c.val) : lastWord T b c = 4294967295#32 := by
  unfold lastWord
  rw [dif_neg]
  rintro ⟨t, ht⟩
  exact h t ht.1

/-- The largest word over the rows, as the kernel selects them, is the last row's. -/
theorem lastWord_eq (T : Rows) (h : InRange T) (b : Fin 32) (c : Fin 28) :
    (Finset.univ.fold IntOp.maxsi 2147483648#32 fun t =>
      Scalar.select (IntOp.cmpi .eq (BitVec.ofNat 32 (cellNo T b t)) (BitVec.ofNat 32 c.val)) (carried T b t) 4294967295#32) = lastWord T b c := by
  have e : (fun t => Scalar.select (IntOp.cmpi .eq (BitVec.ofNat 32 (cellNo T b t)) (BitVec.ofNat 32 c.val)) (carried T b t) 4294967295#32)
      = fun t => if cellNo T b t = c.val then carried T b t else 4294967295#32 := by
    funext t
    rw [cell_test _ _ (cellNo_lt28 T h b t) c.isLt]
    unfold Scalar.select
    by_cases ht : cellNo T b t = c.val <;> simp [ht]
  rw [e]
  rcases exists_last (fun t => cellNo T b t = c.val) with hn | ⟨t, ht⟩
  · rw [key_none T b c hn, lastWord_none hn]
  · rw [key_some T h b c t ht, lastWord_some ht]

/-- The rows of a cell that name a box, as the kernel selects them. -/
theorem select_both (T : Rows) (h : InRange T) (b : Fin 32) (t : Fin 50) (c : Fin 28) (u v : BitVec 32) :
    Scalar.select (IntOp.andi (IntOp.cmpi .eq (BitVec.ofNat 32 (cellNo T b t)) (BitVec.ofNat 32 c.val)) (if Valid T b t then 1#1 else 0#1)) u v
      = if cellNo T b t = c.val ∧ Valid T b t then u else v := by
  rw [cell_test _ _ (cellNo_lt28 T h b t) c.isLt]
  unfold Scalar.select IntOp.andi
  by_cases ht : cellNo T b t = c.val <;> by_cases hv : Valid T b t <;> simp [ht, hv]

/-- The least class of a cell's boxes is 1 exactly where class 1 is met. -/
theorem one_word (T : Rows) (h : InRange T) (b : Fin 32) (c : Fin 28) [Decidable (Met T b c 1#32)] :
    BitVec.setWidth 32 (IntOp.cmpi .eq (Finset.univ.fold IntOp.minsi 2147483647#32 fun t =>
      Scalar.select (IntOp.andi (IntOp.cmpi .eq (BitVec.ofNat 32 (cellNo T b t)) (BitVec.ofNat 32 c.val)) (if Valid T b t then 1#1 else 0#1))
        (T b t 0) 3#32) 1#32) = if Met T b c 1#32 then 1#32 else 0#32 := by
  simp only [select_both T h]
  rw [eq_test]
  have e := min_class T h b c
  by_cases hm : Met T b c 1#32
  · rw [if_pos hm, if_pos (e.2 hm)]; rfl
  · rw [if_neg hm, if_neg fun q => hm (e.1 q)]; rfl

/-- The greatest class of a cell's boxes is 2 exactly where class 2 is met. -/
theorem two_word (T : Rows) (h : InRange T) (b : Fin 32) (c : Fin 28) [Decidable (Met T b c 2#32)] :
    BitVec.setWidth 32 (IntOp.cmpi .eq (Finset.univ.fold IntOp.maxsi 2147483648#32 fun t =>
      Scalar.select (IntOp.andi (IntOp.cmpi .eq (BitVec.ofNat 32 (cellNo T b t)) (BitVec.ofNat 32 c.val)) (if Valid T b t then 1#1 else 0#1))
        (T b t 0) 0#32) 2#32) = if Met T b c 2#32 then 1#32 else 0#32 := by
  simp only [select_both T h]
  rw [eq_test]
  have e := max_class T h b c
  by_cases hm : Met T b c 2#32
  · rw [if_pos hm, if_pos (e.2 hm)]; rfl
  · rw [if_neg hm, if_neg fun q => hm (e.1 q)]; rfl

/-! ## The 28 cells -/

/-- The anchor of a cell. -/
def coordA (c : Fin 28) : Fin 3 := if c.val = 27 then 2 else ⟨c.val / 9 % 3, by omega⟩
/-- The row of a cell. -/
def coordY (c : Fin 28) : Fin 26 := if c.val = 27 then 25 else ⟨c.val / 3 % 3, by omega⟩
/-- The column of a cell. -/
def coordX (c : Fin 28) : Fin 26 := if c.val = 27 then 25 else ⟨c.val % 3, by omega⟩

end Cert.Loss

end
-- ==== Proof.Columns.lean ====
/- The second pallas_call's body as one value of its three blocks: its 28 columns of largest and smallest words
   gathered in three vectors, and each of them read at an image and a cell. -/
module

public import proofs.«01_k».proof.Proof.Gen.KernelIdeal.Frame
public import proofs.«01_k».proof.Proof.Words
public import Idealize.ShloMosaic.Lib.Pipeline.Value
public import Idealize.ShloMosaic.Lib.Pipeline.ValueKit
public import Idealize.ShloMosaic.Lib.Tactic

@[expose] public section

noncomputable section

namespace Cert.Loss

open Cert.KernelIdeal Cert.KernelIdeal.Gen Idealize.ShloMosaic Idealize.ShloMosaic.TcCoe Idealize.SL.Sem

variable {F : FTy → Type} [FloatOps F]

/-- The rows written to the cell of number `m`. -/
def atCell (cell : IVec S32x50 32) (m : BitVec 32) : IVec S32x50 1 := cmpi .eq cell (broadcast S32x50 m)

/-- For each image the largest word of the rows written to the cell of number `m`. -/
def keyCol (cell key : IVec S32x50 32) (m : BitVec 32) : IVec S32x1 32 :=
  shapeCast S32x1 (multiReductionI .maxsi [1] S32 (select (atCell cell m) key (broadcast S32x50 4294967295#32)) 2147483648#32
    reduces_S32x50_S32 rfl) shapeCasts_S32_S32x1

/-- For each image the smallest class of the boxes written to the cell of number `m`. -/
def minCol (cls : IVec S32x50 32) (valid : IVec S32x50 1) (cell : IVec S32x50 32) (m : BitVec 32) : IVec S32x1 32 :=
  shapeCast S32x1 (multiReductionI .minsi [1] S32 (select (andi (atCell cell m) valid) cls (broadcast S32x50 3#32)) 2147483647#32
    reduces_S32x50_S32 rfl) shapeCasts_S32_S32x1

/-- For each image the largest class of the boxes written to the cell of number `m`. -/
def maxCol (cls : IVec S32x50 32) (valid : IVec S32x50 1) (cell : IVec S32x50 32) (m : BitVec 32) : IVec S32x1 32 :=
  shapeCast S32x1 (multiReductionI .maxsi [1] S32 (select (andi (atCell cell m) valid) cls (broadcast S32x50 0#32)) 2147483648#32
    reduces_S32x50_S32 rfl) shapeCasts_S32_S32x1

/-- Twenty-eight columns side by side. -/
def side (f : Fin 28 → IVec S32x1 32) : IVec S32x28 32 :=
  concatenate S32x28 1 [⟨S32x1, f 0⟩, ⟨S32x1, f 1⟩, ⟨S32x1, f 2⟩, ⟨S32x1, f 3⟩, ⟨S32x1, f 4⟩, ⟨S32x1, f 5⟩, ⟨S32x1, f 6⟩, ⟨S32x1, f 7⟩, ⟨S32x1, f 8⟩, ⟨S32x1, f 9⟩, ⟨S32x1, f 10⟩, ⟨S32x1, f 11⟩, ⟨S32x1, f 12⟩, ⟨S32x1, f 13⟩, ⟨S32x1, f 14⟩, ⟨S32x1, f 15⟩, ⟨S32x1, f 16⟩, ⟨S32x1, f 17⟩, ⟨S32x1, f 18⟩, ⟨S32x1, f 19⟩, ⟨S32x1, f 20⟩, ⟨S32x1, f 21⟩, ⟨S32x1, f 22⟩, ⟨S32x1, f 23⟩, ⟨S32x1, f 24⟩, ⟨S32x1, f 25⟩, ⟨S32x1, f 26⟩, ⟨S32x1, f 27⟩]
    concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x28_d1

/-- Entry `(i, c)` of the columns side by side is entry `i` of column `c`. -/
theorem side_at (f : Fin 28 → IVec S32x1 32) (i : Fin 32) (c : Fin 28) : side f (ix2 i c) = f c (ix2 i (0 : Fin 1)) :=
  concatenate_ofFn_unit_apply (t := S32x28) (s₁ := S32x1) 1 f concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x28_d1 rfl rfl (ix2 i c) c rfl (ix2 i (0 : Fin 1))
    (by decide +revert)

/-- The words of the 28 cells. -/
theorem keys_eq (x0 : Vec F S4x8x28x95 .f32) (x1 : Vec F S9x32x50 .i32) (x2 : Vec F S1x8 .f32) :
    k1_pay199 x0 x1 x2 = side fun c => keyCol (k1_pay191 x0 x1 x2) (k1_pay193 x0 x1 x2) (BitVec.ofNat 32 c.val) := rfl

/-- Whether a box of class 1 is written to each of the 28 cells, as a number. -/
def oneOf (cls : IVec S32x50 32) (valid : IVec S32x50 1) (cell : IVec S32x50 32) : FVec F S32x28 .f32 :=
  sitofp .f32 (extui 32 (cmpi .eq (side fun c => minCol cls valid cell (BitVec.ofNat 32 c.val)) (broadcast S32x28 1#32)) natLt_1_32)

/-- Whether a box of class 2 is written to each of the 28 cells, as a number. -/
def twoOf (cls : IVec S32x50 32) (valid : IVec S32x50 1) (cell : IVec S32x50 32) : FVec F S32x28 .f32 :=
  sitofp .f32 (extui 32 (cmpi .eq (side fun c => maxCol cls valid cell (BitVec.ofNat 32 c.val)) (broadcast S32x28 2#32)) natLt_1_32)

/-- The kernel's marks of class 1 are `oneOf` of its rows. -/
theorem one_eq (x0 : Vec F S4x8x28x95 .f32) (x1 : Vec F S9x32x50 .i32) (x2 : Vec F S1x8 .f32) :
    k1_pay148 (F := F) (k1_pay189 x0 x1 x2) (k1_pay190 x0 x1 x2) (k1_pay191 x0 x1 x2) (k1_pay11 (k1_pay189 x0 x1 x2) (k1_pay190 x0 x1 x2) (k1_pay191 x0 x1 x2)) (k1_pay17 (k1_pay189 x0 x1 x2) (k1_pay190 x0 x1 x2) (k1_pay194 x0 x1 x2)) (k1_pay22 (k1_pay189 x0 x1 x2) (k1_pay190 x0 x1 x2) (k1_pay191 x0 x1 x2)) (k1_pay27 (k1_pay189 x0 x1 x2) (k1_pay190 x0 x1 x2) (k1_pay191 x0 x1 x2)) (k1_pay32 (k1_pay189 x0 x1 x2) (k1_pay190 x0 x1 x2) (k1_pay191 x0 x1 x2)) (k1_pay37 (k1_pay189 x0 x1 x2) (k1_pay190 x0 x1 x2) (k1_pay191 x0 x1 x2)) (k1_pay42 (k1_pay189 x0 x1 x2) (k1_pay190 x0 x1 x2) (k1_pay191 x0 x1 x2)) (k1_pay47 (k1_pay189 x0 x1 x2) (k1_pay190 x0 x1 x2) (k1_pay191 x0 x1 x2)) (k1_pay52 (k1_pay189 x0 x1 x2) (k1_pay190 x0 x1 x2) (k1_pay191 x0 x1 x2)) (k1_pay57 (k1_pay189 x0 x1 x2) (k1_pay195 x0 x1 x2)) (k1_pay62 (k1_pay189 x0 x1 x2) (k1_pay190 x0 x1 x2) (k1_pay191 x0 x1 x2)) (k1_pay67 (k1_pay189 x0 x1 x2) (k1_pay190 x0 x1 x2) (k1_pay191 x0 x1 x2)) (k1_pay72 (k1_pay189 x0 x1 x2) (k1_pay190 x0 x1 x2) (k1_pay196 x0 x1 x2)) (k1_pay77 (k1_pay189 x0 x1 x2) (k1_pay190 x0 x1 x2) (k1_pay191 x0 x1 x2)) (k1_pay82 (k1_pay189 x0 x1 x2) (k1_pay190 x0 x1 x2) (k1_pay191 x0 x1 x2)) (k1_pay88 (k1_pay189 x0 x1 x2) (k1_pay190 x0 x1 x2) (k1_pay191 x0 x1 x2)) (k1_pay93 (k1_pay189 x0 x1 x2) (k1_pay190 x0 x1 x2) (k1_pay191 x0 x1 x2)) (k1_pay99 (k1_pay98 (k1_pay189 x0 x1 x2) (k1_pay190 x0 x1 x2) (k1_pay191 x0 x1 x2))) (k1_pay104 (k1_pay189 x0 x1 x2) (k1_pay190 x0 x1 x2) (k1_pay191 x0 x1 x2)) (k1_pay109 (k1_pay189 x0 x1 x2) (k1_pay190 x0 x1 x2) (k1_pay191 x0 x1 x2)) (k1_pay115 (k1_pay189 x0 x1 x2) (k1_pay190 x0 x1 x2) (k1_pay197 x0 x1 x2)) (k1_pay120 (k1_pay189 x0 x1 x2) (k1_pay190 x0 x1 x2) (k1_pay191 x0 x1 x2)) (k1_pay125 (k1_pay189 x0 x1 x2) (k1_pay190 x0 x1 x2) (k1_pay191 x0 x1 x2)) (k1_pay131 (k1_pay189 x0 x1 x2) (k1_pay190 x0 x1 x2) (k1_pay191 x0 x1 x2) (k1_pay198 x0 x1 x2)) (k1_pay136 (k1_pay189 x0 x1 x2) (k1_pay190 x0 x1 x2) (k1_pay191 x0 x1 x2)) (k1_pay141 (k1_pay189 x0 x1 x2) (k1_pay190 x0 x1 x2) (k1_pay191 x0 x1 x2)) = oneOf (F := F) (k1_pay189 x0 x1 x2) (k1_pay190 x0 x1 x2) (k1_pay191 x0 x1 x2) := rfl

/-- The kernel's marks of class 2 are `twoOf` of its rows. -/
theorem two_eq (x0 : Vec F S4x8x28x95 .f32) (x1 : Vec F S9x32x50 .i32) (x2 : Vec F S1x8 .f32) :
    k1_pay150 (F := F) (k1_pay149 (k1_pay189 x0 x1 x2) (k1_pay190 x0 x1 x2) (k1_pay191 x0 x1 x2) (k1_pay12 (k1_pay189 x0 x1 x2) (k1_pay190 x0 x1 x2) (k1_pay191 x0 x1 x2)) (k1_pay18 (k1_pay189 x0 x1 x2) (k1_pay190 x0 x1 x2) (k1_pay194 x0 x1 x2)) (k1_pay23 (k1_pay189 x0 x1 x2) (k1_pay190 x0 x1 x2) (k1_pay191 x0 x1 x2)) (k1_pay28 (k1_pay189 x0 x1 x2) (k1_pay190 x0 x1 x2) (k1_pay191 x0 x1 x2)) (k1_pay33 (k1_pay189 x0 x1 x2) (k1_pay190 x0 x1 x2) (k1_pay191 x0 x1 x2)) (k1_pay38 (k1_pay189 x0 x1 x2) (k1_pay190 x0 x1 x2) (k1_pay191 x0 x1 x2)) (k1_pay43 (k1_pay189 x0 x1 x2) (k1_pay41 (k1_pay190 x0 x1 x2) (k1_pay191 x0 x1 x2))) (k1_pay48 (k1_pay189 x0 x1 x2) (k1_pay190 x0 x1 x2) (k1_pay191 x0 x1 x2)) (k1_pay53 (k1_pay189 x0 x1 x2) (k1_pay190 x0 x1 x2) (k1_pay191 x0 x1 x2)) (k1_pay58 (k1_pay189 x0 x1 x2) (k1_pay195 x0 x1 x2)) (k1_pay63 (k1_pay189 x0 x1 x2) (k1_pay190 x0 x1 x2) (k1_pay191 x0 x1 x2)) (k1_pay68 (k1_pay189 x0 x1 x2) (k1_pay190 x0 x1 x2) (k1_pay191 x0 x1 x2)) (k1_pay73 (k1_pay189 x0 x1 x2) (k1_pay190 x0 x1 x2) (k1_pay196 x0 x1 x2)) (k1_pay78 (k1_pay189 x0 x1 x2) (k1_pay190 x0 x1 x2) (k1_pay191 x0 x1 x2)) (k1_pay84 (k1_pay83 (k1_pay189 x0 x1 x2) (k1_pay190 x0 x1 x2) (k1_pay191 x0 x1 x2))) (k1_pay89 (k1_pay189 x0 x1 x2) (k1_pay190 x0 x1 x2) (k1_pay191 x0 x1 x2)) (k1_pay94 (k1_pay189 x0 x1 x2) (k1_pay190 x0 x1 x2) (k1_pay191 x0 x1 x2)) (k1_pay100 (k1_pay189 x0 x1 x2) (k1_pay97 (k1_pay190 x0 x1 x2) (k1_pay191 x0 x1 x2))) (k1_pay105 (k1_pay189 x0 x1 x2) (k1_pay190 x0 x1 x2) (k1_pay191 x0 x1 x2)) (k1_pay110 (k1_pay189 x0 x1 x2) (k1_pay190 x0 x1 x2) (k1_pay191 x0 x1 x2)) (k1_pay116 (k1_pay189 x0 x1 x2) (k1_pay190 x0 x1 x2) (k1_pay197 x0 x1 x2)) (k1_pay121 (k1_pay189 x0 x1 x2) (k1_pay190 x0 x1 x2) (k1_pay191 x0 x1 x2)) (k1_pay126 (k1_pay189 x0 x1 x2) (k1_pay190 x0 x1 x2) (k1_pay191 x0 x1 x2)) (k1_pay132 (k1_pay189 x0 x1 x2) (k1_pay190 x0 x1 x2) (k1_pay191 x0 x1 x2) (k1_pay198 x0 x1 x2)) (k1_pay137 (k1_pay189 x0 x1 x2) (k1_pay190 x0 x1 x2) (k1_pay191 x0 x1 x2)) (k1_pay140 (k1_pay190 x0 x1 x2) (k1_pay191 x0 x1 x2)) k1_pay142) = twoOf (F := F) (k1_pay189 x0 x1 x2) (k1_pay190 x0 x1 x2) (k1_pay191 x0 x1 x2) := rfl

/-- The sum of the box terms of the 28 cells, weighted. -/
def boxSum (x0 : Vec F S4x8x28x95 .f32) (x1 : Vec F S9x32x50 .i32) (x2 : Vec F S1x8 .f32) : F .f32 :=
  k1_pay179 (k1_pay201 x0 x1 x2) (k1_pay163 (F := F) (k1_pay200 x0 x1 x2) 27#32 (k1_pay161 (k1_pay200 x0 x1 x2)) k1_pay162) (k1_pay175 (k1_pay188 x0 x1 x2) (k1_pay204 x0 x1 x2)) (k1_pay177 (k1_pay188 x0 x1 x2) (k1_pay157 (F := F) (Scalar.select (Scalar.cmpi .eq 3#32 0#32) 1#32 3#32) (k1_pay153 (k1_pay199 x0 x1 x2)) (k1_pay154 (k1_pay199 x0 x1 x2)) (k1_pay155 (k1_pay199 x0 x1 x2)) k1_pay156) (k1_pay159 (F := F) (k1_pay158 (k1_pay200 x0 x1 x2))) (k1_pay169 (F := F) (k1_pay203 x0 x1 x2) (k1_pay168 (k1_pay202 x0 x1 x2)) 3#32 0#32) (k1_pay170 (F := F) (k1_pay202 x0 x1 x2) (k1_pay203 x0 x1 x2))) (k1_pay178 (k1_pay188 x0 x1 x2) (k1_pay160 (F := F) (k1_pay200 x0 x1 x2)) (k1_pay171 (k1_pay204 x0 x1 x2)) (k1_pay172 (k1_pay204 x0 x1 x2)) (k1_pay173 (F := F)) (k1_pay174 (F := F)))

/-- What the body leaves in its [1, 8] block. -/
theorem corner_out (x0 : Vec F S4x8x28x95 .f32) (x1 : Vec F S9x32x50 .i32) (x2 : Vec F S1x8 .f32) :
    out1_3 x0 x1 x2 = k1_pay1 (oneOf (k1_pay189 x0 x1 x2) (k1_pay190 x0 x1 x2) (k1_pay191 x0 x1 x2))
      (twoOf (k1_pay189 x0 x1 x2) (k1_pay190 x0 x1 x2) (k1_pay191 x0 x1 x2))
      (k1_pay201 x0 x1 x2) (boxSum x0 x1 x2) (k1_pay180 (k1_pay201 x0 x1 x2) (k1_pay205 x0 x1 x2)) (k1_pay181 (k1_pay201 x0 x1 x2) (k1_pay205 x0 x1 x2)) (k1_pay183 (k1_pay182 (k1_pay188 x0 x1 x2)) (Scalar.ofBits .f32 0x00000000#32)) (k1_pay184 (k1_pay188 x0 x1 x2)) (k1_pay185 (k1_pay188 x0 x1 x2)) (k1_pay186 (k1_pay188 x0 x1 x2)) (k1_pay187 (F := F) (k1_pay203 x0 x1 x2)) x2 := by
  rw [← one_eq, ← two_eq]
  unfold boxSum
  conv_rhs => rw [← View.ld_unit_lit (S := S1x8) (off := ![0, 0]) inb_S1x8_S1x8_0_0 x2 (by decide)]
  exact View.canon_cons_unit_lit (S := S1x8) (off := ![0, 0]) inb_S1x8_S1x8_0_0 _ _ (by decide)

end Cert.Loss

end
-- ==== Proof.Corner.lean ====
/- The second pallas_call's integer vectors read at an image and a row or a cell: the rows' cells and words, and for
   each cell the word it holds in the end. -/
module

public import proofs.«01_k».proof.Proof.Columns
public import Idealize.ShloMosaic.Lib.Pointwise
public import Idealize.ShloMosaic.PureOps.Ideal

@[expose] public section

noncomputable section

namespace Cert.Loss

open Cert.KernelIdeal Cert.KernelIdeal.Gen Idealize.ShloMosaic Idealize.ShloMosaic.TcCoe Idealize.SL.Sem

/-- The target rows as the body's block of words has them: field, image, row. -/
def rowsOf (x1 : Vec Ideal S9x32x50 .i32) : Rows := fun b t f => x1 (ix3 f b t)

/-- The gathered cells as the body's block has them: block of eight images, image in it, cell, channel. -/
def gathered (x0 : Vec Ideal S4x8x28x95 .f32) (b : Fin 32) (c : Fin 28) (k : Fin 95) : EReal :=
  x0 (ix4 (⟨b.val / 8, by omega⟩ : Fin 4) (⟨b.val % 8, by omega⟩ : Fin 8) c k)

variable (x0 : Vec Ideal S4x8x28x95 .f32) (x1 : Vec Ideal S9x32x50 .i32) (x2 : Vec Ideal S1x8 .f32)

/-- The images and cells as one array. -/
theorem cells_read (b : Fin 32) (c : Fin 28) (k : Fin 95) : k1_pay188 x0 x1 x2 (ix3 b c k) = gathered x0 b c k := by
  unfold k1_pay188 gathered
  pointwise [k1_pay2]

/-- The rows' classes. -/
theorem class_read (b : Fin 32) (t : Fin 50) : k1_pay189 x0 x1 x2 (ix2 b t) = rowsOf x1 b t 0 := by
  unfold k1_pay189 rowsOf
  pointwise [k1_pay3]

/-- Which rows name a box. -/
theorem valid_read (b : Fin 32) (t : Fin 50) :
    k1_pay190 x0 x1 x2 (ix2 b t) = if Valid (rowsOf x1) b t then 1#1 else 0#1 := by
  unfold k1_pay190
  pointwise [k1_pay4, k1_pay3]
  exact valid_word (rowsOf x1) b t

/-- The rows' cells. -/
theorem cell_read (h : InRange (rowsOf x1)) (b : Fin 32) (t : Fin 50) :
    k1_pay191 x0 x1 x2 (ix2 b t) = BitVec.ofNat 32 (cellNo (rowsOf x1) b t) := by
  unfold k1_pay191
  pointwise [k1_pay5, k1_pay4, k1_pay3]
  exact cell_word _ h _ _

/-- The rows' words. -/
theorem key_read (h : InRange (rowsOf x1)) (b : Fin 32) (t : Fin 50) :
    k1_pay193 x0 x1 x2 (ix2 b t) = carried (rowsOf x1) b t := by
  rw [← carried_eq _ h]
  unfold k1_pay193 k1_pay189 k1_pay192
  pointwise [k1_pay7, k1_pay6, k1_pay3]
  rfl

/-- A cell's column of largest words at an image. -/
theorem keyCol_read (cell key : IVec S32x50 32) (m : BitVec 32) (b : Fin 32) : keyCol cell key m (ix2 b (0 : Fin 1)) =
    Finset.univ.fold IntOp.maxsi 2147483648#32 fun t => Scalar.select (IntOp.cmpi .eq (cell (ix2 b t)) m) (key (ix2 b t)) 4294967295#32 := by
  pointwise [keyCol, atCell]

/-- A cell's column of smallest classes at an image. -/
theorem minCol_read (cls cell : IVec S32x50 32) (v : IVec S32x50 1) (m : BitVec 32) (b : Fin 32) : minCol cls v cell m (ix2 b (0 : Fin 1)) =
    Finset.univ.fold IntOp.minsi 2147483647#32 fun t => Scalar.select (IntOp.andi (IntOp.cmpi .eq (cell (ix2 b t)) m) (v (ix2 b t))) (cls (ix2 b t)) 3#32 := by
  pointwise [minCol, atCell]

/-- A cell's column of largest classes at an image. -/
theorem maxCol_read (cls cell : IVec S32x50 32) (v : IVec S32x50 1) (m : BitVec 32) (b : Fin 32) : maxCol cls v cell m (ix2 b (0 : Fin 1)) =
    Finset.univ.fold IntOp.maxsi 2147483648#32 fun t => Scalar.select (IntOp.andi (IntOp.cmpi .eq (cell (ix2 b t)) m) (v (ix2 b t))) (cls (ix2 b t)) 0#32 := by
  pointwise [maxCol, atCell]

/-- The word a cell holds in the end. -/
theorem word_read (h : InRange (rowsOf x1)) (b : Fin 32) (c : Fin 28) :
    k1_pay199 x0 x1 x2 (ix2 b c) = lastWord (rowsOf x1) b c := by
  rw [keys_eq, side_at, keyCol_read]
  simp only [cell_read x0 x1 x2 h, key_read x0 x1 x2 h]
  exact lastWord_eq _ h _ _

/-- Whether a box of class 1 is written to a cell. -/
theorem one_read (h : InRange (rowsOf x1)) (b : Fin 32) (c : Fin 28) [Decidable (Met (rowsOf x1) b c 1#32)] :
    oneOf (F := Ideal) (k1_pay189 x0 x1 x2) (k1_pay190 x0 x1 x2) (k1_pay191 x0 x1 x2) (ix2 b c)
      = FloatOps.sitofp .f32 (if Met (rowsOf x1) b c 1#32 then 1#32 else 0#32) := by
  refine congrArg (FloatOps.sitofp .f32) ?_
  show BitVec.setWidth 32 (IntOp.cmpi .eq (side (fun c => minCol (k1_pay189 x0 x1 x2) (k1_pay190 x0 x1 x2) (k1_pay191 x0 x1 x2) (BitVec.ofNat 32 c.val)) (ix2 b c)) 1#32) = _
  rw [side_at, minCol_read]
  simp only [cell_read x0 x1 x2 h, class_read, valid_read]
  exact one_word _ h _ _

/-- Whether a box of class 2 is written to a cell. -/
theorem two_read (h : InRange (rowsOf x1)) (b : Fin 32) (c : Fin 28) [Decidable (Met (rowsOf x1) b c 2#32)] :
    twoOf (F := Ideal) (k1_pay189 x0 x1 x2) (k1_pay190 x0 x1 x2) (k1_pay191 x0 x1 x2) (ix2 b c)
      = FloatOps.sitofp .f32 (if Met (rowsOf x1) b c 2#32 then 1#32 else 0#32) := by
  refine congrArg (FloatOps.sitofp .f32) ?_
  show BitVec.setWidth 32 (IntOp.cmpi .eq (side (fun c => maxCol (k1_pay189 x0 x1 x2) (k1_pay190 x0 x1 x2) (k1_pay191 x0 x1 x2) (BitVec.ofNat 32 c.val)) (ix2 b c)) 2#32) = _
  rw [side_at, maxCol_read]
  simp only [cell_read x0 x1 x2 h, class_read, valid_read]
  exact two_word _ h _ _

/-! ## The digits of a word -/

/-- The first digit, from a word with its low byte known. -/
theorem x_digit (w : IVec S32x28 32) (b : Fin 32) (c : Fin 28) (e : Fin 243) (hw : k1_pay151 w (ix2 b c) = BitVec.ofNat 32 e.val) :
    k1_pay157 (F := Ideal) (Scalar.select (Scalar.cmpi .eq 3#32 0#32) 1#32 3#32) (k1_pay153 w) (k1_pay154 w) (k1_pay155 w) k1_pay156 (ix2 b c)
      = FloatOps.sitofp .f32 (BitVec.ofNat 32 (e.val % 3)) := by
  pointwise [k1_pay157, k1_pay156, k1_pay155, k1_pay154, k1_pay153]
  rw [hw]
  refine congrArg (FloatOps.sitofp .f32) ?_
  clear hw; revert e; decide +kernel

/-- The second base-3 digit of a word is the box's centre in y. -/
theorem y_digit (v : IVec S32x28 32) (b : Fin 32) (c : Fin 28) (e : Fin 243) (hw : v (ix2 b c) = BitVec.ofNat 32 e.val) :
    k1_pay159 (F := Ideal) (k1_pay158 v) (ix2 b c) = FloatOps.sitofp .f32 (BitVec.ofNat 32 (e.val / 3 % 3)) := by
  pointwise [k1_pay159, k1_pay158]
  rw [hw]
  refine congrArg (FloatOps.sitofp .f32) ?_
  clear hw; revert e; decide +kernel

/-- The third digit is the box's width. -/
theorem w_digit (v : IVec S32x28 32) (b : Fin 32) (c : Fin 28) (e : Fin 243) (hw : v (ix2 b c) = BitVec.ofNat 32 e.val) :
    k1_pay160 (F := Ideal) v (ix2 b c) = FloatOps.sitofp .f32 (BitVec.ofNat 32 (e.val / 9 % 3)) := by
  pointwise [k1_pay160]
  rw [hw]
  refine congrArg (FloatOps.sitofp .f32) ?_
  clear hw; revert e; decide +kernel

/-- The fourth digit is the box's height. -/
theorem h_digit (v : IVec S32x28 32) (b : Fin 32) (c : Fin 28) (e : Fin 243) (hw : v (ix2 b c) = BitVec.ofNat 32 e.val) :
    k1_pay163 (F := Ideal) v 27#32 (k1_pay161 v) k1_pay162 (ix2 b c) = FloatOps.sitofp .f32 (BitVec.ofNat 32 (e.val / 27 % 3)) := by
  pointwise [k1_pay163, k1_pay161, k1_pay162]
  rw [hw]
  refine congrArg (FloatOps.sitofp .f32) ?_
  clear hw; revert e; decide +kernel

/-- A cell that some row is written to holds a box where the fifth digit, the class, is not 0. -/
theorem has_digit (w : IVec S32x28 32) (b : Fin 32) (c : Fin 28) (e : Fin 243) (hw : k1_pay151 w (ix2 b c) = BitVec.ofNat 32 e.val)
    (hs : IntOp.cmpi .sge (w (ix2 b c)) 0#32 = 1#1) :
    k1_pay152 (F := Ideal) w (ix2 b c) = FloatOps.sitofp .f32 (if e.val / 81 = 0 then 0#32 else 1#32) := by
  pointwise [k1_pay152]
  rw [hw, hs]
  refine congrArg (FloatOps.sitofp .f32) ?_
  clear hw hs; revert e; decide +kernel

/-- A cell that no row is written to holds no box. -/
theorem has_nothing (w : IVec S32x28 32) (b : Fin 32) (c : Fin 28) (hw : w (ix2 b c) = 4294967295#32) :
    k1_pay152 (F := Ideal) w (ix2 b c) = FloatOps.sitofp .f32 0#32 := by
  pointwise [k1_pay152, k1_pay151]
  rw [hw]
  refine congrArg (FloatOps.sitofp .f32) ?_
  decide +kernel

/-! ## The cells' coordinates -/

/-- The anchor of a cell, as the kernel computes it from the cell's number. -/
theorem a_read (c : Fin 28) : k1_pay204 x0 x1 x2 (ix2 (0 : Fin 1) c) = BitVec.ofNat 32 (coordA c).val := by
  unfold k1_pay204 k1_pay203 k1_pay202
  pointwise [k1_pay167, k1_pay166, k1_pay165, k1_pay164]
  revert c; decide +kernel

/-- The row of a cell, as the kernel computes it from the cell's number. -/
theorem y_read (c : Fin 28) : k1_pay169 (F := Ideal) (k1_pay203 x0 x1 x2) (k1_pay168 (k1_pay202 x0 x1 x2)) 3#32 0#32 (ix2 (0 : Fin 1) c)
    = FloatOps.sitofp .f32 (BitVec.ofNat 32 (coordY c).val) := by
  unfold k1_pay203 k1_pay202
  pointwise [k1_pay169, k1_pay168, k1_pay164]
  refine congrArg (FloatOps.sitofp .f32) ?_
  revert c; decide +kernel

/-- The column of a cell, as the kernel computes it from the cell's number. -/
theorem x_read (c : Fin 28) : k1_pay170 (F := Ideal) (k1_pay202 x0 x1 x2) (k1_pay203 x0 x1 x2) (ix2 (0 : Fin 1) c)
    = FloatOps.sitofp .f32 (BitVec.ofNat 32 (coordX c).val) := by
  unfold k1_pay203 k1_pay202
  pointwise [k1_pay170, k1_pay164]
  refine congrArg (FloatOps.sitofp .f32) ?_
  revert c; decide +kernel

/-- The kernel's test for the far cell, as a number. -/
theorem far_read (c : Fin 28) : k1_pay187 (F := Ideal) (k1_pay203 x0 x1 x2) (ix2 (0 : Fin 1) c)
    = FloatOps.sitofp .f32 (if c.val = 27 then 1#32 else 0#32) := by
  unfold k1_pay203
  pointwise [k1_pay187, k1_pay164]
  refine congrArg (FloatOps.sitofp .f32) ?_
  revert c; decide +kernel

end Cert.Loss

end
-- ==== Proof.Spec.lean ====
/- The loss of one cell in the real numbers, and sums over the grid's cells that only the 28 cells rows are written to
   contribute to. No program is named here. -/
module

public import proofs.«01_k».proof.Proof.Words

@[expose] public section

noncomputable section

namespace Cert.Loss

open Idealize.ShloMosaic

/-! ## The numbers written as bit patterns -/

/-- The literal 1/2. -/
theorem lit_half : Ideal.ofBits .f32 1056964608#32 = ((1 / 2 : ℝ) : EReal) := by
  simp [Ideal.ofBits, Ideal.ieee, -EReal.coe_mul]; norm_num
/-- The literal 1/4. -/
theorem lit_quarter : Ideal.ofBits .f32 1048576000#32 = ((1 / 4 : ℝ) : EReal) := by
  simp [Ideal.ofBits, Ideal.ieee, -EReal.coe_mul]; norm_num
/-- The literal 1. -/
theorem lit_one : Ideal.ofBits .f32 1065353216#32 = ((1 : ℝ) : EReal) := by
  simp [Ideal.ofBits, Ideal.ieee, -EReal.coe_mul]; norm_num
/-- The literal 2. -/
theorem lit_two : Ideal.ofBits .f32 1073741824#32 = ((2 : ℝ) : EReal) := by
  simp [Ideal.ofBits, Ideal.ieee, -EReal.coe_mul]; norm_num
/-- The literal 100. -/
theorem lit_hundred : Ideal.ofBits .f32 1120403456#32 = ((100 : ℝ) : EReal) := by
  simp [Ideal.ofBits, Ideal.ieee, -EReal.coe_mul]; norm_num
/-- The literal -100. -/
theorem lit_floor : Ideal.ofBits .f32 3267887104#32 = ((-100 : ℝ) : EReal) := by
  simp [Ideal.ofBits, Ideal.ieee, -EReal.coe_mul]; norm_num
/-- The literal 64896, the number of cells. -/
theorem lit_cells : Ideal.ofBits .f32 1199407104#32 = ((64896 : ℝ) : EReal) := by
  simp [Ideal.ofBits, Ideal.ieee, -EReal.coe_mul]; norm_num

/-! ## Real sums inside the extended reals -/

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A logit's probability and its clamped logarithms -/

/-- The logistic function's value is a real between 0 and 1. -/
theorem logistic_real (z : EReal) : ∃ s : ℝ, Ideal.logistic z = (s : EReal) ∧ 0 ≤ s ∧ s ≤ 1 := by
  induction z with
  | bot => exact ⟨0, by simp, le_refl _, zero_le_one⟩
  | top => exact ⟨1, by simp, zero_le_one, le_refl _⟩
  | coe r =>
    refine ⟨(1 + Real.exp (-r))⁻¹, by simp, by positivity, ?_⟩
    have : (0 : ℝ) < Real.exp (-r) := Real.exp_pos _
    exact inv_le_one_of_one_le₀ (by linarith)

/-- The probability of a logit. -/
def prob (z : EReal) : ℝ := (logistic_real z).choose

/-- The logistic function is the real number `prob`. -/
theorem logistic_eq (z : EReal) : Ideal.logistic z = (prob z : EReal) := (logistic_real z).choose_spec.1
/-- A probability is not negative. -/
theorem prob_nonneg (z : EReal) : 0 ≤ prob z := (logistic_real z).choose_spec.2.1
/-- A probability is at most 1. -/
theorem prob_le_one (z : EReal) : prob z ≤ 1 := (logistic_real z).choose_spec.2.2

/-- The logarithm, not below minus one hundred. -/
def clamped (p : ℝ) : ℝ := if p ≤ 0 then -100 else max (Real.log p) (-100)

/-- The clamped logarithm of 1 is 0. -/
theorem clamped_one : clamped 1 = 0 := by unfold clamped; norm_num
/-- The clamped logarithm of 0 is -100. -/
theorem clamped_zero : clamped 0 = -100 := by unfold clamped; norm_num

/-- The logarithm cut off at minus one hundred. -/
theorem log_floor (p : ℝ) : max (Ideal.log (p : EReal)) ((-100 : ℝ) : EReal) = (clamped p : EReal) := by
  rw [Ideal.log_coe]
  unfold clamped
  split
  · simp
  · exact (EReal.coe_strictMono.monotone.map_max).symm

/-- The logarithm taken only of positive numbers, and cut off at minus one hundred. -/
theorem log_guard (p : ℝ) :
    Scalar.select (Ideal.cmp .ogt (p : EReal) 0)
      (max (Ideal.log (Scalar.select (Ideal.cmp .ogt (p : EReal) 0) (p : EReal) ((1 : ℝ) : EReal))) ((-100 : ℝ) : EReal)) ((-100 : ℝ) : EReal)
      = (clamped p : EReal) := by
  by_cases h : 0 < p
  · have e : Ideal.cmp .ogt (p : EReal) 0 = 1#1 := by
      have : (0 : EReal) < (p : EReal) := by exact_mod_cast h
      simp [Ideal.cmp, this]
    rw [e, select_one, select_one, log_floor]
  · have e : Ideal.cmp .ogt (p : EReal) 0 = 0#1 := by
      have : ¬(0 : EReal) < (p : EReal) := by exact_mod_cast h
      simp [Ideal.cmp, this]
    rw [e, select_zero]
    unfold clamped
    rw [if_pos (not_lt.1 h)]

/-! ## The losses of one cell -/

/-- The object loss of a cell as the reference writes it: `g` is 1 if the cell holds a box, 0 otherwise. -/
def objLoss (g p : ℝ) : ℝ := 2 * -(g * clamped (g * p) + (1 - g) * clamped (1 - g * p))

/-- The no-object loss of a cell as the reference writes it. -/
def noLoss (g p : ℝ) : ℝ := 1 / 4 * -(g * clamped ((1 - g) * p) + (1 - g) * clamped (1 - (1 - g) * p))

/-- The class loss of a cell as the reference writes it: `o` marks the classes met, `s` their probabilities. -/
def clsLoss (g : ℝ) (o s : Fin 90 → ℝ) : ℝ := g * 2 * ∑ k, 1 * -(o k * clamped (s k) + (1 - o k) * clamped (1 - s k))

/-- An empty cell has no object loss. -/
theorem objLoss_zero (p : ℝ) : objLoss 0 p = 0 := by unfold objLoss; simp [clamped_one]
/-- The object loss of a cell with a box. -/
theorem objLoss_one (p : ℝ) : objLoss 1 p = 2 * (0 - clamped p) := by unfold objLoss; simp
/-- The no-object loss of an empty cell. -/
theorem noLoss_zero (p : ℝ) : noLoss 0 p = 1 / 4 * (0 - clamped (1 - p)) := by unfold noLoss; simp
/-- The no-object loss of a cell with a box is 25. -/
theorem noLoss_one (p : ℝ) : noLoss 1 p = 1 / 4 * 100 := by unfold noLoss; simp [clamped_zero]
/-- An empty cell has no class loss. -/
theorem clsLoss_zero (o s : Fin 90 → ℝ) : clsLoss 0 o s = 0 := by unfold clsLoss; simp

/-- One class's loss as the loss of a class not met and a correction. -/
theorem cls_split (o s : Fin 90 → ℝ) : ∑ k, 1 * -(o k * clamped (s k) + (1 - o k) * clamped (1 - s k))
    = (∑ k, (0 - clamped (1 - s k))) + ∑ k, o k * (0 - clamped (s k) + clamped (1 - s k)) := by
  rw [← Finset.sum_add_distrib]
  exact Finset.sum_congr rfl fun k _ => by ring

/-! ## The cells of the grid -/

/-- The number of a grid cell among the 28, if it is one of them. -/
def cellOf (a : Fin 3) (y x : Fin 26) : Option (Fin 28) :=
  if h : y.val < 3 ∧ x.val < 3 then some ⟨9 * a.val + 3 * y.val + x.val, by omega⟩
  else if a.val = 2 ∧ y.val = 25 ∧ x.val = 25 then some 27 else none

/-- The 28 cells are where their coordinates say. -/
theorem cellOf_coord (c : Fin 28) : cellOf (coordA c) (coordY c) (coordX c) = some c := by
  revert c; decide

/-- A grid cell with a number has that number's coordinates. -/
theorem coord_of {a : Fin 3} {y x : Fin 26} {c : Fin 28} (h : cellOf a y x = some c) : coordA c = a ∧ coordY c = y ∧ coordX c = x := by
  unfold cellOf at h
  split at h
  · next hb =>
    injection h with h
    subst h
    have ha := a.isLt
    have hne : ¬(9 * a.val + 3 * y.val + x.val = 27) := by omega
    refine ⟨Fin.ext ?_, Fin.ext ?_, Fin.ext ?_⟩
    · simp only [coordA, if_neg hne]; omega
    · simp only [coordY, if_neg hne]; omega
    · simp only [coordX, if_neg hne]; omega
  · split at h
    · next hb =>
      injection h with h
      subst h
      exact ⟨Fin.ext hb.1.symm, Fin.ext hb.2.1.symm, Fin.ext hb.2.2.symm⟩
    · cases h

/-- A sum over the grid of terms that vanish outside the 28 cells is the sum over these. -/
theorem sum_grid {M : Type} [AddCommMonoid M] (f : Fin 3 → Fin 26 → Fin 26 → M) (h0 : ∀ a y x, cellOf a y x = none → f a y x = 0) :
    ∑ a, ∑ y, ∑ x, f a y x = ∑ c : Fin 28, f (coordA c) (coordY c) (coordX c) := by
  have e : ∑ a, ∑ y, ∑ x, f a y x = ∑ q : Fin 3 × Fin 26 × Fin 26, f q.1 q.2.1 q.2.2 := by
    rw [Fintype.sum_prod_type]
    exact Finset.sum_congr rfl fun a _ => (Fintype.sum_prod_type (f := fun q : Fin 26 × Fin 26 => f a q.1 q.2)).symm
  rw [e]
  refine (Fintype.sum_of_injective (fun c : Fin 28 => (coordA c, coordY c, coordX c)) ?_ _ _ ?_ fun _ => rfl).symm
  · intro c c' hc
    have h1 := cellOf_coord c
    simp only [Prod.mk.injEq] at hc
    rw [hc.1, hc.2.1, hc.2.2, cellOf_coord c'] at h1
    injection h1 with h1
    exact h1.symm
  · rintro ⟨a, y, x⟩ hq
    refine h0 a y x ?_
    cases hc : cellOf a y x with
    | none => rfl
    | some c =>
      obtain ⟨h1, h2, h3⟩ := coord_of hc
      exact absurd ⟨c, by simp only [h1, h2, h3]⟩ hq

/-- 1 if cell `c` of image `b` holds a box in the end, 0 otherwise. -/
def hasBox (T : Rows) (b : Fin 32) (c : Fin 28) : ℝ := if held T b c 0 = 0#32 then 0 else 1

/-- The same of a cell of the grid. -/
def gridHas (T : Rows) (b : Fin 32) (a : Fin 3) (y x : Fin 26) : ℝ := (cellOf a y x).elim 0 (hasBox T b)

/-- Field `f` of a cell of the grid after all rows are written. -/
def gridField (T : Rows) (b : Fin 32) (a : Fin 3) (y x : Fin 26) (f : Fin 9) : BitVec 32 := (cellOf a y x).elim 0#32 fun c => held T b c f

/-- At the coordinates of one of the 28 cells the grid has a box if the cell has one. -/
theorem gridHas_coord (T : Rows) (b : Fin 32) (c : Fin 28) : gridHas T b (coordA c) (coordY c) (coordX c) = hasBox T b c := by
  unfold gridHas; rw [cellOf_coord]; rfl

/-- At the coordinates of one of the 28 cells the grid holds the cell's fields. -/
theorem gridField_coord (T : Rows) (b : Fin 32) (c : Fin 28) (f : Fin 9) :
    gridField T b (coordA c) (coordY c) (coordX c) f = held T b c f := by
  unfold gridField; rw [cellOf_coord]; rfl

/-- Outside the 28 cells there is no box. -/
theorem gridHas_none (T : Rows) (b : Fin 32) {a : Fin 3} {y x : Fin 26} (h : cellOf a y x = none) : gridHas T b a y x = 0 := by
  unfold gridHas; rw [h]; rfl

/-- Outside the 28 cells the fields are 0. -/
theorem gridField_none (T : Rows) (b : Fin 32) {a : Fin 3} {y x : Fin 26} (h : cellOf a y x = none) (f : Fin 9) : gridField T b a y x f = 0#32 := by
  unfold gridField; rw [h]; rfl

/-- Whether a cell has a box is the number 0 or 1. -/
theorem hasBox_cases (T : Rows) (b : Fin 32) (c : Fin 28) : hasBox T b c = 0 ∨ hasBox T b c = 1 := by
  unfold hasBox; split
  · exact .inl rfl
  · exact .inr rfl

/-! ## The box loss of one cell, in the extended reals -/

/-- The widths of the three anchors. -/
def anchorW (a : Fin 3) : EReal :=
  if a.val = 0 then Ideal.ofBits .f32 1106247680#32 else if a.val = 1 then Ideal.ofBits .f32 1115160576#32 else Ideal.ofBits .f32 1114374144#32

/-- The heights of the three anchors. -/
def anchorH (a : Fin 3) : EReal :=
  if a.val = 0 then Ideal.ofBits .f32 1114898432#32 else if a.val = 1 then Ideal.ofBits .f32 1110704128#32 else Ideal.ofBits .f32 1122893824#32

/-- A word as a number. -/
abbrev num (w : BitVec 32) : EReal := FloatOps.sitofp (F := Ideal) .f32 w

/-- The centre of a predicted box along one axis: sixteen times the logit's probability plus sixteen times the cell's place. -/
def centre (z : EReal) (i : Fin 26) : EReal :=
  Ideal.ofBits .f32 1098907648#32 * Ideal.logistic z + Ideal.ofBits .f32 1098907648#32 * num (BitVec.ofNat 32 i.val)

/-- The box loss of a cell as the reference writes it: `g` is 1 if the cell holds a box, 0 otherwise, `z` are the
    cell's predictions and `t` its fields. -/
def boxLoss (g : EReal) (z : Fin 95 → EReal) (a : Fin 3) (y x : Fin 26) (t : Fin 9 → BitVec 32) : EReal :=
  Ideal.ofBits .f32 1056964608#32 *
    ((g * centre (z 0) x - num (t 1)) * (g * centre (z 0) x - num (t 1))
      + (g * centre (z 1) y - num (t 2)) * (g * centre (z 1) y - num (t 2))
      + (g * (Ideal.exp (z 2) * anchorW a) - num (t 3)) * (g * (Ideal.exp (z 2) * anchorW a) - num (t 3))
      + (g * (Ideal.exp (z 3) * anchorH a) - num (t 4)) * (g * (Ideal.exp (z 3) * anchorH a) - num (t 4)))

/-- The number of the word 0. -/
theorem num_zero : num 0#32 = 0 := by
  show (((0#32 : BitVec 32).toInt : ℝ) : EReal) = 0
  simp
/-- The number of the word 1. -/
theorem num_one : num 1#32 = 1 := by
  show (((1#32 : BitVec 32).toInt : ℝ) : EReal) = 1
  simp

/-- An empty cell whose box fields are zero has no box loss. -/
theorem boxLoss_zero (z : Fin 95 → EReal) (a : Fin 3) (y x : Fin 26) (t : Fin 9 → BitVec 32)
    (h1 : t 1 = 0#32) (h2 : t 2 = 0#32) (h3 : t 3 = 0#32) (h4 : t 4 = 0#32) : boxLoss 0 z a y x t = 0 := by
  unfold boxLoss
  rw [h1, h2, h3, h4, num_zero]
  simp

/-- A row of class 0 has a box of zeros, unless a later row of its image names no box either. -/
def PadsEmpty (T : Rows) : Prop := ∀ b t, T b t 0 = 0#32 →
  (T b t 1 = 0#32 ∧ T b t 2 = 0#32 ∧ T b t 3 = 0#32 ∧ T b t 4 = 0#32) ∨ ∃ t', t < t' ∧ ¬Valid T b t'

/-- With the last padding rows empty, a cell without a box has zero box fields. -/
theorem held_empty (T : Rows) (hp : PadsEmpty T) (b : Fin 32) (c : Fin 28) (h : held T b c 0 = 0#32) :
    held T b c 1 = 0#32 ∧ held T b c 2 = 0#32 ∧ held T b c 3 = 0#32 ∧ held T b c 4 = 0#32 := by
  rcases exists_last (fun t => cellNo T b t = c.val) with hn | ⟨t, ht⟩
  · exact ⟨held_none hn _, held_none hn _, held_none hn _, held_none hn _⟩
  · have ht : Winner T b c t := ht
    rw [held_some ht] at h
    simp only [held_some ht]
    rcases hp b t h with he | ⟨t', hlt, hv⟩
    · exact he
    · have e : cellNo T b t = 27 := if_neg fun q => q.1 h
      have e' : cellNo T b t' = 27 := if_neg hv
      exact absurd (e'.trans (e.symm.trans ht.1)) (ht.2 t' hlt)

/-- With the last padding rows empty, the box losses add up to those of the 28 cells that hold a box. -/
theorem box_sum (T : Rows) (hp : PadsEmpty T) (z : Fin 32 → Fin 3 → Fin 26 → Fin 26 → Fin 95 → EReal) :
    ∑ b, ∑ a, ∑ y, ∑ x, boxLoss (gridHas T b a y x : ℝ) (z b a y x) a y x (gridField T b a y x)
      = ∑ b, ∑ c, (hasBox T b c : EReal) * boxLoss 1 (z b (coordA c) (coordY c) (coordX c)) (coordA c) (coordY c) (coordX c) (held T b c) := by
  refine Finset.sum_congr rfl fun b _ => ?_
  rw [sum_grid _ fun a y x h => by
    rw [gridHas_none T b h]
    exact boxLoss_zero _ _ _ _ _ (gridField_none T b h _) (gridField_none T b h _) (gridField_none T b h _) (gridField_none T b h _)]
  refine Finset.sum_congr rfl fun c _ => ?_
  rw [gridHas_coord, show gridField T b (coordA c) (coordY c) (coordX c) = held T b c from funext fun f => gridField_coord T b c f]
  by_cases hz : held T b c 0 = 0#32
  · rw [show hasBox T b c = 0 from if_pos hz, EReal.coe_zero, zero_mul]
    obtain ⟨h1, h2, h3, h4⟩ := held_empty T hp b c hz
    exact boxLoss_zero _ _ _ _ _ h1 h2 h3 h4
  · rw [show hasBox T b c = 1 from if_neg hz, EReal.coe_one, one_mul]

/-! ## The sums over the batch -/

/-- The object losses add up to those of the 28 cells. -/
theorem obj_sum (T : Rows) (p : Fin 32 → Fin 3 → Fin 26 → Fin 26 → ℝ) :
    ∑ b, ∑ a, ∑ y, ∑ x, objLoss (gridHas T b a y x) (p b a y x)
      = ∑ b, ∑ c, hasBox T b c * (2 * (0 - clamped (p b (coordA c) (coordY c) (coordX c)))) := by
  refine Finset.sum_congr rfl fun b _ => ?_
  rw [sum_grid _ fun a y x h => by rw [gridHas_none T b h, objLoss_zero]]
  refine Finset.sum_congr rfl fun c _ => ?_
  rw [gridHas_coord]
  rcases hasBox_cases T b c with h | h <;> rw [h]
  · rw [objLoss_zero, zero_mul]
  · rw [objLoss_one, one_mul]

/-- The no-object losses add up to those of an empty grid and a correction in the 28 cells. -/
theorem no_sum (T : Rows) (p : Fin 32 → Fin 3 → Fin 26 → Fin 26 → ℝ) :
    ∑ b, ∑ a, ∑ y, ∑ x, noLoss (gridHas T b a y x) (p b a y x)
      = 1 / 4 * (∑ b, ∑ a, ∑ y, ∑ x, (0 - clamped (1 - p b a y x)))
        + 1 / 4 * ∑ b, ∑ c, hasBox T b c * (100 - (0 - clamped (1 - p b (coordA c) (coordY c) (coordX c)))) := by
  have e : ∀ b a y x, noLoss (gridHas T b a y x) (p b a y x) = 1 / 4 * (0 - clamped (1 - p b a y x))
      + 1 / 4 * (gridHas T b a y x * (100 - (0 - clamped (1 - p b a y x)))) := by
    intro b a y x
    rcases (show gridHas T b a y x = 0 ∨ gridHas T b a y x = 1 by
      unfold gridHas
      cases cellOf a y x with
      | none => exact .inl rfl
      | some c => exact hasBox_cases T b c) with h | h <;> rw [h]
    · rw [noLoss_zero]; ring
    · rw [noLoss_one]; ring
  simp only [e, Finset.sum_add_distrib, ← Finset.mul_sum]
  congr 2
  refine Finset.sum_congr rfl fun b _ => ?_
  rw [sum_grid _ fun a y x h => by rw [gridHas_none T b h, zero_mul]]
  exact Finset.sum_congr rfl fun c _ => by rw [gridHas_coord]

/-- The cells that hold a box are counted among the 28. -/
theorem has_sum (T : Rows) : ∑ b, ∑ a, ∑ y, ∑ x, gridHas T b a y x = ∑ b, ∑ c, hasBox T b c := by
  refine Finset.sum_congr rfl fun b _ => ?_
  rw [sum_grid _ fun a y x h => gridHas_none T b h]
  exact Finset.sum_congr rfl fun c _ => gridHas_coord T b c

/-- The cells without a box are the other cells. -/
theorem hasnt_sum (T : Rows) : ∑ b : Fin 32, ∑ a, ∑ y, ∑ x, (1 - gridHas T b a y x) = 64896 - ∑ b, ∑ c, hasBox T b c := by
  rw [← has_sum]
  simp only [Finset.sum_sub_distrib, Finset.sum_const, Finset.card_univ, Fintype.card_fin]
  norm_num

/-! ## The classes met in a cell -/

/-- The class a row is written under: one less than its own, the last class if it names no box. -/
def classNo (T : Rows) (b : Fin 32) (t : Fin 50) : ℕ := if Valid T b t then (T b t 0).toNat - 1 else 89

/-- Some row is written to cell `c` under class `k`. -/
def Marked (T : Rows) (b : Fin 32) (c : Fin 28) (k : Fin 90) : Prop := ∃ t, cellNo T b t = c.val ∧ classNo T b t = k.val

open Classical in
/-- 1 if class `k` is marked in a cell of the grid, 0 otherwise. -/
def gridMark (T : Rows) (b : Fin 32) (a : Fin 3) (y x : Fin 26) (k : Fin 90) : ℝ :=
  (cellOf a y x).elim 0 fun c => if Marked T b c k then 1 else 0

open Classical in
/-- 1 if a row of class `k` that names a box is written to the cell. -/
def metR (T : Rows) (b : Fin 32) (c : Fin 28) (k : BitVec 32) : ℝ := if Met T b c k then 1 else 0

/-- The first class is marked by the rows of class 1. -/
theorem marked_first (T : Rows) (h : InRange T) (b : Fin 32) (c : Fin 28) : Marked T b c 0 ↔ Met T b c 1#32 := by
  unfold Marked Met classNo
  constructor
  · rintro ⟨t, ht, hk⟩
    by_cases hv : Valid T b t
    · rw [if_pos hv] at hk
      have hz : (T b t 0).toNat ≠ 0 := fun e => hv.1 (BitVec.eq_of_toNat_eq (by rw [e]; rfl))
      have hk : (T b t 0).toNat - 1 = 0 := hk
      exact ⟨t, ht, hv, BitVec.eq_of_toNat_eq (by show _ = 1; omega)⟩
    · rw [if_neg hv] at hk
      exact absurd hk (by decide)
  · rintro ⟨t, ht, hv, hk⟩
    exact ⟨t, ht, by rw [if_pos hv, hk]; rfl⟩

/-- The second class is marked by the rows of class 2. -/
theorem marked_second (T : Rows) (h : InRange T) (b : Fin 32) (c : Fin 28) : Marked T b c 1 ↔ Met T b c 2#32 := by
  unfold Marked Met classNo
  constructor
  · rintro ⟨t, ht, hk⟩
    by_cases hv : Valid T b t
    · rw [if_pos hv] at hk
      have hk : (T b t 0).toNat - 1 = 1 := hk
      exact ⟨t, ht, hv, BitVec.eq_of_toNat_eq (by show _ = 2; omega)⟩
    · rw [if_neg hv] at hk
      exact absurd hk (by decide)
  · rintro ⟨t, ht, hv, hk⟩
    exact ⟨t, ht, by rw [if_pos hv, hk]; rfl⟩

/-- In a cell that holds a box, the last class is marked exactly if it is the far cell. -/
theorem marked_last (T : Rows) (h : InRange T) (b : Fin 32) (c : Fin 28) (hb : hasBox T b c = 1) : Marked T b c 89 ↔ c.val = 27 := by
  have hw : ∃ t, cellNo T b t = c.val := by
    by_contra hn
    push Not at hn
    unfold hasBox at hb
    rw [held_none hn, if_pos rfl] at hb
    exact zero_ne_one hb
  unfold Marked classNo
  constructor
  · rintro ⟨t, ht, hk⟩
    by_cases hv : Valid T b t
    · rw [if_pos hv] at hk
      have := h b t 0
      have hk : (T b t 0).toNat - 1 = 89 := hk
      omega
    · have := (cellNo_lt T h b t).not.1 hv
      have := c.isLt
      omega
  · intro hc
    obtain ⟨t, ht⟩ := hw
    refine ⟨t, ht, ?_⟩
    rw [if_neg]
    · rfl
    · intro hv
      have := (cellNo_lt T h b t).1 hv
      omega

/-- No class between the second and the last is marked. -/
theorem marked_other (T : Rows) (h : InRange T) (b : Fin 32) (c : Fin 28) (k : Fin 90) (h0 : k ≠ 0) (h1 : k ≠ 1) (h2 : k ≠ 89) : ¬Marked T b c k := by
  rintro ⟨t, -, hk⟩
  have h0' : k.val ≠ 0 := fun e => h0 (Fin.ext e)
  have h1' : k.val ≠ 1 := fun e => h1 (Fin.ext e)
  have h2' : k.val ≠ 89 := fun e => h2 (Fin.ext e)
  have := h b t 0
  unfold classNo at hk
  split at hk <;> omega

/-- The class losses add up to those of the 28 cells, each as the loss of a cell without classes and three corrections. -/
theorem cls_sum (T : Rows) (h : InRange T) (s : Fin 32 → Fin 3 → Fin 26 → Fin 26 → Fin 90 → ℝ) :
    ∑ b, ∑ a, ∑ y, ∑ x, clsLoss (gridHas T b a y x) (gridMark T b a y x) (s b a y x)
      = ∑ b, ∑ c, hasBox T b c * (2 * ((∑ k, (0 - clamped (1 - s b (coordA c) (coordY c) (coordX c) k)))
          + metR T b c 1#32 * (0 - clamped (s b (coordA c) (coordY c) (coordX c) 0) + clamped (1 - s b (coordA c) (coordY c) (coordX c) 0))
          + metR T b c 2#32 * (0 - clamped (s b (coordA c) (coordY c) (coordX c) 1) + clamped (1 - s b (coordA c) (coordY c) (coordX c) 1))
          + (if c.val = 27 then 1 else 0) * (0 - clamped (s b (coordA c) (coordY c) (coordX c) 89) + clamped (1 - s b (coordA c) (coordY c) (coordX c) 89)))) := by
  classical
  refine Finset.sum_congr rfl fun b _ => ?_
  rw [sum_grid _ fun a y x h => by rw [gridHas_none T b h, clsLoss_zero]]
  refine Finset.sum_congr rfl fun c _ => ?_
  rw [gridHas_coord]
  generalize s b (coordA c) (coordY c) (coordX c) = s
  rcases hasBox_cases T b c with hb | hb
  · rw [hb, clsLoss_zero, zero_mul]
  · rw [hb]
    unfold clsLoss
    rw [cls_split]
    have em : ∀ k, gridMark T b (coordA c) (coordY c) (coordX c) k = if Marked T b c k then 1 else 0 := fun k => by
      unfold gridMark; rw [cellOf_coord]; rfl
    have e3 : ∑ k, gridMark T b (coordA c) (coordY c) (coordX c) k * (0 - clamped (s k) + clamped (1 - s k))
        = ∑ k ∈ ({0, 1, 89} : Finset (Fin 90)), gridMark T b (coordA c) (coordY c) (coordX c) k * (0 - clamped (s k) + clamped (1 - s k)) := by
      refine (Finset.sum_subset (Finset.subset_univ _) fun k _ hk => ?_).symm
      simp only [Finset.mem_insert, Finset.mem_singleton, not_or] at hk
      rw [em, if_neg (marked_other T h b c k hk.1 hk.2.1 hk.2.2), zero_mul]
    rw [e3, Finset.sum_insert (by decide), Finset.sum_insert (by decide), Finset.sum_singleton, em, em, em]
    simp only [marked_first T h, marked_second T h, marked_last T h b c hb]
    unfold metR
    ring

end Cert.Loss

end
-- ==== Proof.CornerValue.lean ====
/- The five numbers the second pallas_call leaves, as sums over the images and their 28 cells. -/
module

public import proofs.«01_k».proof.Proof.Corner
public import proofs.«01_k».proof.Proof.Spec

@[expose] public section

noncomputable section

namespace Cert.Loss

open Cert.KernelIdeal Cert.KernelIdeal.Gen Idealize.ShloMosaic Idealize.ShloMosaic.TcCoe Idealize.SL.Sem

variable (x0 : Vec Ideal S4x8x28x95 .f32) (x1 : Vec Ideal S9x32x50 .i32) (x2 : Vec Ideal S1x8 .f32)

/-- The mark of a cell that holds a box. -/
theorem has_read (h : InRange (rowsOf x1)) (b : Fin 32) (c : Fin 28) :
    k1_pay201 x0 x1 x2 (ix2 b c) = (hasBox (rowsOf x1) b c : EReal) := by
  have hw := word_read x0 x1 x2 h b c
  unfold k1_pay201
  rcases exists_last (fun t => cellNo (rowsOf x1) b t = c.val) with hn | ⟨t, ht⟩
  · rw [lastWord_none hn] at hw
    rw [has_nothing _ _ _ hw]
    unfold hasBox
    rw [held_none hn, if_pos rfl, EReal.coe_zero]
    exact num_zero
  · have ht : Winner (rowsOf x1) b c t := ht
    rw [lastWord_some ht] at hw
    have hl : k1_pay151 (k1_pay199 x0 x1 x2) (ix2 b c) = BitVec.ofNat 32 (packed (rowsOf x1) b t) := by
      pointwise [k1_pay151]
      rw [hw, low_byte _ h]
    rw [has_digit _ b c ⟨packed (rowsOf x1) b t, packed_lt _ h b t⟩ hl (by rw [hw]; exact carried_nonneg _ h b t)]
    unfold hasBox
    rw [held_some ht]
    have hd := (packed_digits (rowsOf x1) h b t).2.2.2.2
    by_cases hz : rowsOf x1 b t 0 = 0#32
    · have : packed (rowsOf x1) b t / 81 = 0 := by rw [hd, hz]; rfl
      simp only [this, if_true, hz, EReal.coe_zero]
      exact num_zero
    · have : packed (rowsOf x1) b t / 81 ≠ 0 := by
        rw [hd]
        exact fun e => hz (BitVec.eq_of_toNat_eq (by rw [e]; rfl))
      simp only [if_neg this, if_neg hz, EReal.coe_one]
      exact num_one

/-- The mark of class 1 in a cell. -/
theorem one_real (h : InRange (rowsOf x1)) (b : Fin 32) (c : Fin 28) :
    oneOf (F := Ideal) (k1_pay189 x0 x1 x2) (k1_pay190 x0 x1 x2) (k1_pay191 x0 x1 x2) (ix2 b c) = (metR (rowsOf x1) b c 1#32 : EReal) := by
  classical
  rw [one_read x0 x1 x2 h]
  unfold metR
  by_cases hm : Met (rowsOf x1) b c 1#32
  · rw [if_pos hm, if_pos hm, EReal.coe_one]; exact num_one
  · rw [if_neg hm, if_neg hm, EReal.coe_zero]; exact num_zero

/-- The mark of class 2 in a cell. -/
theorem two_real (h : InRange (rowsOf x1)) (b : Fin 32) (c : Fin 28) :
    twoOf (F := Ideal) (k1_pay189 x0 x1 x2) (k1_pay190 x0 x1 x2) (k1_pay191 x0 x1 x2) (ix2 b c) = (metR (rowsOf x1) b c 2#32 : EReal) := by
  classical
  rw [two_read x0 x1 x2 h]
  unfold metR
  by_cases hm : Met (rowsOf x1) b c 2#32
  · rw [if_pos hm, if_pos hm, EReal.coe_one]; exact num_one
  · rw [if_neg hm, if_neg hm, EReal.coe_zero]; exact num_zero

/-- The mark of the far cell. -/
theorem far_real (c : Fin 28) : k1_pay187 (F := Ideal) (k1_pay203 x0 x1 x2) (ix2 (0 : Fin 1) c) = ((if c.val = 27 then 1 else 0 : ℝ) : EReal) := by
  rw [far_read]
  by_cases hc : c.val = 27
  · rw [if_pos hc, if_pos hc, EReal.coe_one]; exact num_one
  · rw [if_neg hc, if_neg hc, EReal.coe_zero]; exact num_zero

/-- The confidence of a cell. -/
theorem conf_read (b : Fin 32) (c : Fin 28) : k1_pay205 x0 x1 x2 (ix2 b c) = (prob (gathered x0 b c 4) : EReal) := by
  unfold k1_pay205
  pointwise [k1_pay176]
  rw [cells_read, logistic_eq]

/-- The loss of a cell without classes. -/
theorem base_read (b : Fin 32) (c : Fin 28) :
    k1_pay183 (k1_pay182 (k1_pay188 x0 x1 x2)) (0 : EReal) (ix2 b c)
      = ((∑ k : Fin 90, (0 - clamped (1 - prob (gathered x0 b c ⟨5 + k.val, by omega⟩))) : ℝ) : EReal) := by
  pointwise [k1_pay183, k1_pay182]
  rw [coe_sum]
  refine Finset.sum_congr rfl fun k _ => ?_
  rw [cells_read, logistic_eq, lit_floor, ← EReal.coe_one, ← EReal.coe_sub, log_floor, EReal.coe_sub, EReal.coe_zero]

/-- The correction of a logit whose class is met. -/
theorem corr_real (z : EReal) :
    0 - max (Ideal.log (Ideal.logistic z)) (Ideal.ofBits .f32 3267887104#32)
      + max (Ideal.log (1 - Ideal.logistic z)) (Ideal.ofBits .f32 3267887104#32)
      = ((0 - clamped (prob z) + clamped (1 - prob z) : ℝ) : EReal) := by
  rw [logistic_eq, lit_floor, log_floor, ← EReal.coe_one, ← EReal.coe_sub, log_floor, EReal.coe_add, EReal.coe_sub, EReal.coe_zero]

/-- The class correction of the first class's logit. -/
theorem corr_first (b : Fin 32) (c : Fin 28) : k1_pay184 (k1_pay188 x0 x1 x2) (ix2 b c)
    = ((0 - clamped (prob (gathered x0 b c 5)) + clamped (1 - prob (gathered x0 b c 5)) : ℝ) : EReal) := by
  pointwise [k1_pay184]
  rw [cells_read, corr_real]

/-- The class correction of the second class's logit. -/
theorem corr_second (b : Fin 32) (c : Fin 28) : k1_pay185 (k1_pay188 x0 x1 x2) (ix2 b c)
    = ((0 - clamped (prob (gathered x0 b c 6)) + clamped (1 - prob (gathered x0 b c 6)) : ℝ) : EReal) := by
  pointwise [k1_pay185]
  rw [cells_read, corr_real]

/-- The class correction of the last class's logit. -/
theorem corr_last (b : Fin 32) (c : Fin 28) : k1_pay186 (k1_pay188 x0 x1 x2) (ix2 b c)
    = ((0 - clamped (prob (gathered x0 b c 94)) + clamped (1 - prob (gathered x0 b c 94)) : ℝ) : EReal) := by
  pointwise [k1_pay186]
  rw [cells_read, corr_real]

/-! ## The five numbers -/

/-- The number of cells that hold a box. -/
theorem out_count (h : InRange (rowsOf x1)) : out1_3 x0 x1 x2 (ix2 (0 : Fin 1) (4 : Fin 8))
    = x2 (ix2 (0 : Fin 1) (4 : Fin 8)) + ((∑ b, ∑ c, hasBox (rowsOf x1) b c : ℝ) : EReal) := by
  rw [corner_out]
  pointwise [k1_pay1]
  simp only [coe_sum, has_read x0 x1 x2 h]

/-- The object losses of the cells that hold a box. -/
theorem out_obj (h : InRange (rowsOf x1)) : out1_3 x0 x1 x2 (ix2 (0 : Fin 1) (1 : Fin 8))
    = x2 (ix2 (0 : Fin 1) (1 : Fin 8)) + ((∑ b, ∑ c, hasBox (rowsOf x1) b c * (2 * (0 - clamped (prob (gathered x0 b c 4)))) : ℝ) : EReal) := by
  rw [corner_out]
  pointwise [k1_pay1, k1_pay180]
  simp only [coe_sum, has_read x0 x1 x2 h, conf_read, lit_floor, lit_two, log_floor, EReal.coe_mul, EReal.coe_sub, EReal.coe_zero]

/-- The corrections of the no-object losses in the cells that hold a box. -/
theorem out_no (h : InRange (rowsOf x1)) : out1_3 x0 x1 x2 (ix2 (0 : Fin 1) (2 : Fin 8))
    = x2 (ix2 (0 : Fin 1) (2 : Fin 8))
      + ((1 / 4 * ∑ b, ∑ c, hasBox (rowsOf x1) b c * (100 - (0 - clamped (1 - prob (gathered x0 b c 4)))) : ℝ) : EReal) := by
  rw [corner_out]
  pointwise [k1_pay1, k1_pay181]
  simp only [has_read x0 x1 x2 h, conf_read, lit_floor, lit_quarter, lit_hundred, ← EReal.coe_one, ← EReal.coe_zero, ← EReal.coe_sub, log_floor,
    ← EReal.coe_mul, ← coe_sum]

/-- The class losses of the cells that hold a box. -/
theorem out_cls (h : InRange (rowsOf x1)) : out1_3 x0 x1 x2 (ix2 (0 : Fin 1) (3 : Fin 8))
    = x2 (ix2 (0 : Fin 1) (3 : Fin 8))
      + ((∑ b, ∑ c, hasBox (rowsOf x1) b c * (2 * ((∑ k : Fin 90, (0 - clamped (1 - prob (gathered x0 b c ⟨5 + k.val, by omega⟩))))
          + metR (rowsOf x1) b c 1#32 * (0 - clamped (prob (gathered x0 b c 5)) + clamped (1 - prob (gathered x0 b c 5)))
          + metR (rowsOf x1) b c 2#32 * (0 - clamped (prob (gathered x0 b c 6)) + clamped (1 - prob (gathered x0 b c 6)))
          + (if c.val = 27 then 1 else 0) * (0 - clamped (prob (gathered x0 b c 94)) + clamped (1 - prob (gathered x0 b c 94))))) : ℝ) : EReal) := by
  rw [corner_out]
  pointwise [k1_pay1]
  simp only [has_read x0 x1 x2 h, one_real x0 x1 x2 h, two_real x0 x1 x2 h, far_real, base_read, corr_first, corr_second, corr_last, lit_two,
    ← EReal.coe_mul, ← EReal.coe_add, ← coe_sum]

/-- The width of an anchor, as the kernel selects it. -/
theorem anchorW_select (a : Fin 3) :
    Scalar.select (IntOp.cmpi .eq (BitVec.ofNat 32 a.val) 0#32) (Ideal.ofBits .f32 1106247680#32)
      (Scalar.select (IntOp.cmpi .eq (BitVec.ofNat 32 a.val) 1#32) (Ideal.ofBits .f32 1115160576#32) (Ideal.ofBits .f32 1114374144#32)) = anchorW a := by
  unfold anchorW
  fin_cases a <;> rfl

/-- The height of an anchor, as the kernel selects it. -/
theorem anchorH_select (a : Fin 3) :
    Scalar.select (IntOp.cmpi .eq (BitVec.ofNat 32 a.val) 0#32) (Ideal.ofBits .f32 1114898432#32)
      (Scalar.select (IntOp.cmpi .eq (BitVec.ofNat 32 a.val) 1#32) (Ideal.ofBits .f32 1110704128#32) (Ideal.ofBits .f32 1122893824#32)) = anchorH a := by
  unfold anchorH
  fin_cases a <;> rfl

/-- The box losses of the cells that hold a box. -/
theorem out_box (h : InRange (rowsOf x1)) : out1_3 x0 x1 x2 (ix2 (0 : Fin 1) (0 : Fin 8))
    = x2 (ix2 (0 : Fin 1) (0 : Fin 8))
      + ∑ b, ∑ c, (hasBox (rowsOf x1) b c : EReal) * boxLoss 1 (gathered x0 b c) (coordA c) (coordY c) (coordX c) (held (rowsOf x1) b c) := by
  rw [corner_out]
  unfold boxSum
  pointwise [k1_pay1, k1_pay179]
  refine congrArg _ (Finset.sum_congr rfl fun b _ => Finset.sum_congr rfl fun c _ => ?_)
  rw [has_read x0 x1 x2 h]
  by_cases hz : held (rowsOf x1) b c 0 = 0#32
  · rw [show hasBox (rowsOf x1) b c = 0 from if_pos hz, EReal.coe_zero, zero_mul, zero_mul]
  · refine congrArg _ ?_
    rcases exists_last (fun t => cellNo (rowsOf x1) b t = c.val) with hn | ⟨t, ht⟩
    · exact absurd (held_none hn 0) hz
    · have ht : Winner (rowsOf x1) b c t := ht
      have hl : k1_pay151 (k1_pay199 x0 x1 x2) (ix2 b c) = BitVec.ofNat 32 (packed (rowsOf x1) b t) := by
        pointwise [k1_pay151]
        rw [word_read x0 x1 x2 h, lastWord_some ht, low_byte _ h]
      obtain ⟨d1, d2, d3, d4, -⟩ := packed_digits (rowsOf x1) h b t
      have hx := x_digit (k1_pay199 x0 x1 x2) b c ⟨packed (rowsOf x1) b t, packed_lt _ h b t⟩ hl
      have hy := y_digit (k1_pay200 x0 x1 x2) b c ⟨packed (rowsOf x1) b t, packed_lt _ h b t⟩ hl
      have hw := w_digit (k1_pay200 x0 x1 x2) b c ⟨packed (rowsOf x1) b t, packed_lt _ h b t⟩ hl
      have hh := h_digit (k1_pay200 x0 x1 x2) b c ⟨packed (rowsOf x1) b t, packed_lt _ h b t⟩ hl
      simp only [d1, d2, d3, d4, BitVec.ofNat_toNat, BitVec.setWidth_eq] at hx hy hw hh
      unfold boxLoss centre
      pointwise [k1_pay177, k1_pay178, k1_pay175, k1_pay171, k1_pay172, k1_pay173, k1_pay174]
      simp only [hx, hy, hw, hh, x_read, y_read, a_read, anchorW_select, anchorH_select, cells_read, held_some ht, one_mul]

end Cert.Loss

end
-- ==== Proof.Regions.lean ====
/- The arrays of the two pallas_calls in the real numbers: the empty grid's no-object losses added up by the first call,
   the cells it gathers, and the second call's array. -/
module

public import proofs.«01_k».proof.Proof.Region0
public import proofs.«01_k».proof.Proof.CornerValue

@[expose] public section

noncomputable section

namespace Cert.Loss

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- The predictions as the call finds them. -/
abbrev predsOf (c : Dev nD) : Vec Ideal S32x3x26x26x95 .f32 := V c main_arg0

/-- A block of eight images is those images. -/
theorem block_read (c : Dev nD) (t : Fin cfg0.N) (b : Fin 8) (a : Fin 3) (y x : Fin 26) (k : Fin 95) :
    iblk0 V c 0 t (ix5 b a y x k) = predsOf V c (ix5 (⟨8 * t.val + b.val, by have h : t.val < 4 := t.isLt; omega⟩ : Fin 32) a y x k) := by
  blk_ext! [iblk0, idx0 t]

/-- The no-object losses of an empty block of eight images. -/
def blockNo (x : Vec Ideal S8x3x26x26x95 .f32) : ℝ :=
  1 / 4 * ∑ b : Fin 8, ∑ a : Fin 3, ∑ y : Fin 26, ∑ x' : Fin 26, (0 - clamped (1 - prob (x (ix5 b a y x' 4))))

/-- One point adds its block's losses to column 2. -/
theorem step_two (x : Vec Ideal S8x3x26x26x95 .f32) (d : Vec Ideal S1x8 .f32) :
    k0_pay3 (confOf x) d (ix2 (0 : Fin 1) (2 : Fin 8)) = d (ix2 (0 : Fin 1) (2 : Fin 8)) + (blockNo x : EReal) := by
  unfold blockNo confOf
  pointwise [k0_pay3]
  refine congrArg (d _ + ·) ?_
  rw [lit_quarter, Ideal.reduceAdd_total _ (by decide), sum_idx5, EReal.coe_mul]
  refine congrArg (_ * ·) ?_
  rw [Fin.sum_univ_one]
  simp only [coe_sum]
  refine Finset.sum_congr rfl fun b _ => Finset.sum_congr rfl fun a _ => Finset.sum_congr rfl fun y _ => Finset.sum_congr rfl fun e _ => ?_
  pointwise
  rw [logistic_eq, lit_floor, show (1 : EReal) = ((1 : ℝ) : EReal) from rfl, ← EReal.coe_sub, log_floor, ← EReal.coe_zero, ← EReal.coe_sub]

/-- And nothing to another column. -/
theorem step_zero (x : Vec Ideal S8x3x26x26x95 .f32) (d : Vec Ideal S1x8 .f32) :
    k0_pay3 (confOf x) d (ix2 (0 : Fin 1) (0 : Fin 8)) = d (ix2 (0 : Fin 1) (0 : Fin 8)) := by
  pointwise [k0_pay3]
  rw [mul_zero, add_zero]

/-- A step leaves column 1 of the running sums as it was. -/
theorem step_one (x : Vec Ideal S8x3x26x26x95 .f32) (d : Vec Ideal S1x8 .f32) :
    k0_pay3 (confOf x) d (ix2 (0 : Fin 1) (1 : Fin 8)) = d (ix2 (0 : Fin 1) (1 : Fin 8)) := by
  pointwise [k0_pay3]
  rw [mul_zero, add_zero]

/-- A step leaves column 3 of the running sums as it was. -/
theorem step_three (x : Vec Ideal S8x3x26x26x95 .f32) (d : Vec Ideal S1x8 .f32) :
    k0_pay3 (confOf x) d (ix2 (0 : Fin 1) (3 : Fin 8)) = d (ix2 (0 : Fin 1) (3 : Fin 8)) := by
  pointwise [k0_pay3]
  rw [mul_zero, add_zero]

/-- A step leaves column 4 of the running sums as it was. -/
theorem step_four (x : Vec Ideal S8x3x26x26x95 .f32) (d : Vec Ideal S1x8 .f32) :
    k0_pay3 (confOf x) d (ix2 (0 : Fin 1) (4 : Fin 8)) = d (ix2 (0 : Fin 1) (4 : Fin 8)) := by
  pointwise [k0_pay3]
  rw [mul_zero, add_zero]

/-- The cells gathered of a block. -/
theorem cells_entry (x : Vec Ideal S8x3x26x26x95 .f32) (b : Fin 8) (c : Fin 28) (k : Fin 95) :
    k0_pay1 (k0_pay4 (lowOf x)) (farOf x) (ix4 (0 : Fin 1) b c k) = x (ix5 b (coordA c) (coordY c) (coordX c) k) := by
  unfold lowOf farOf
  pointwise [k0_pay1, k0_pay4]
  split
  · next h =>
    have hne : ¬(c.val = 27) := by omega
    refine congrArg x (funext fun i => Fin.ext ?_)
    fin_cases i
    · rfl
    · show c.val / 9 = (coordA c).val
      rw [coordA, if_neg hne]
      show c.val / 9 = c.val / 9 % 3
      omega
    · show c.val / 3 % 3 = (coordY c).val
      rw [coordY, if_neg hne]
    · show c.val % 3 = (coordX c).val
      rw [coordX, if_neg hne]
    · rfl
  · next h =>
    have he : c.val = 27 := by omega
    rw [coordA, coordY, coordX, if_pos he, if_pos he, if_pos he]

/-- The second array the call writes: every image's 28 cells. -/
theorem cells_array (c : Dev nD) (q : Fin 4) (b : Fin 8) (e : Fin 28) (k : Fin 95) :
    (dat0 V c).arrAt 2 cfg0.N (ix4 q b e k)
      = predsOf V c (ix5 (⟨8 * q.val + b.val, by omega⟩ : Fin 32) (coordA e) (coordY e) (coordX e) k) := by
  let w : S4x8x28x95.Idx → EReal := fun j => predsOf V c (ix5 (⟨8 * (j 0).val + (j 1).val, by
    have h0 : (j 0).val < 4 := (j 0).isLt
    have h1 : (j 1).val < 8 := (j 1).isLt
    omega⟩ : Fin 32) (coordA (j 2)) (coordY (j 2)) (coordX (j 2)) (j 3))
  have hw : (dat0 V c).arrAt 2 cfg0.N = w := by
    refine (dat0 V c).arrAt_eq_of_covers 2 _ (by decide +kernel) fun t hf y => ?_
    rw [after0_2, cells_at]
    blk_simp [idx2]
    have h0 : (y 0).val < 1 := (y 0).isLt
    obtain ⟨b, e, k, rfl⟩ : ∃ (b : Fin 8) (e : Fin 28) (k : Fin 95), y = ix4 (0 : Fin 1) b e k :=
      ⟨y 1, y 2, y 3, funext fun i => Fin.ext (by
        fin_cases i
        · show (y 0).val = 0
          omega
        all_goals rfl)⟩
    refine (cells_entry _ b e k).trans ?_
    rw [block_read]
    rw [show (win0_2.blk t).view.emb (ix4 (0 : Fin 1) b e k) = ix4 (⟨t.val, t.isLt⟩ : Fin 4) b e k from by blk_ext [idx2 t]]
    rfl
  rw [hw]
  rfl

/-- A sum over the 32 images goes by blocks of eight. -/
theorem sum_images (f : Fin 32 → ℝ) : ∑ b, f b = ∑ q : Fin 4, ∑ b : Fin 8, f ⟨8 * q.val + b.val, by omega⟩ := by
  rw [← Fintype.sum_prod_type (f := fun q : Fin 4 × Fin 8 => f ⟨8 * q.1.val + q.2.val, by omega⟩)]
  refine (Fintype.sum_equiv (finProdFinEquiv (m := 4) (n := 8)) _ _ fun q => ?_).symm
  exact congrArg f (Fin.ext (Nat.add_comm _ _))

/-- The no-object losses of an empty grid over all images. -/
def emptyNo (x : Vec Ideal S32x3x26x26x95 .f32) : ℝ :=
  1 / 4 * ∑ b : Fin 32, ∑ a : Fin 3, ∑ y : Fin 26, ∑ x' : Fin 26, (0 - clamped (1 - prob (x (ix5 b a y x' 4))))

/-- The no-object losses of the empty grid over the images of one block. -/
def groupNo (x : Vec Ideal S32x3x26x26x95 .f32) (q : Fin 4) : ℝ :=
  1 / 4 * ∑ b : Fin 8, ∑ a : Fin 3, ∑ y : Fin 26, ∑ x' : Fin 26,
    (0 - clamped (1 - prob (x (ix5 (⟨8 * q.val + b.val, by omega⟩ : Fin 32) a y x' 4))))

/-- The four blocks' losses add up to those of all images. -/
theorem group_sum (x : Vec Ideal S32x3x26x26x95 .f32) : groupNo x 0 + groupNo x 1 + groupNo x 2 + groupNo x 3 = emptyNo x := by
  unfold emptyNo
  rw [sum_images, Fin.sum_univ_four]
  unfold groupNo
  simp only [mul_add]

/-- A block's losses are those of the images it is. -/
theorem block_no (c : Dev nD) (t : Fin cfg0.N) (q : Fin 4) (hq : t.val = q.val) : blockNo (iblk0 V c 0 t) = groupNo (predsOf V c) q := by
  unfold blockNo groupNo
  refine congrArg (1 / 4 * ·) (Finset.sum_congr rfl fun b _ => Finset.sum_congr rfl fun a _ => Finset.sum_congr rfl fun y _ =>
    Finset.sum_congr rfl fun e _ => ?_)
  rw [block_read V c t b a y e 4]
  simp only [hq]

/-- The running sums start at zero. -/
theorem zero_block (j : S1x8.Idx) : k0_pay2 (F := Ideal) j = 0 := by
  pointwise [k0_pay2]

/-- Column 2 of the first array holds the losses of the empty grid. -/
theorem running_two (c : Dev nD) (h : 3 < cfg0.N) : running V c 3 h (ix2 (0 : Fin 1) (2 : Fin 8)) = (emptyNo (predsOf V c) : EReal) := by
  unfold running running running running
  rw [step_two, step_two, step_two, step_two, zero_block, block_no V c ⟨0, _⟩ 0 rfl, block_no V c ⟨0 + 1, _⟩ 1 rfl,
    block_no V c ⟨1 + 1, _⟩ 2 rfl, block_no V c ⟨2 + 1, _⟩ 3 rfl, ← group_sum, zero_add, ← EReal.coe_add, ← EReal.coe_add, ← EReal.coe_add]

/-- Column 0 of the running sums is zero in the end. -/
theorem running_zero (c : Dev nD) (h : 3 < cfg0.N) : running V c 3 h (ix2 (0 : Fin 1) (0 : Fin 8)) = 0 := by
  unfold running running running running
  rw [step_zero, step_zero, step_zero, step_zero, zero_block]

/-- Column 1 of the running sums is zero in the end. -/
theorem running_one (c : Dev nD) (h : 3 < cfg0.N) : running V c 3 h (ix2 (0 : Fin 1) (1 : Fin 8)) = 0 := by
  unfold running running running running
  rw [step_one, step_one, step_one, step_one, zero_block]

/-- Column 3 of the running sums is zero in the end. -/
theorem running_three (c : Dev nD) (h : 3 < cfg0.N) : running V c 3 h (ix2 (0 : Fin 1) (3 : Fin 8)) = 0 := by
  unfold running running running running
  rw [step_three, step_three, step_three, step_three, zero_block]

/-- Column 4 of the running sums is zero in the end. -/
theorem running_four (c : Dev nD) (h : 3 < cfg0.N) : running V c 3 h (ix2 (0 : Fin 1) (4 : Fin 8)) = 0 := by
  unfold running running running running
  rw [step_four, step_four, step_four, step_four, zero_block]

/-- The second call reads the gathered cells as one block. -/
theorem at0 : ∀ t : Fin cfg1.N, win1_0.index t = ![0, 0, 0, 0] := (by decide +kernel : ∀ t : Fin grid1.N, _)
/-- The second call reads the targets as one block. -/
theorem at1 : ∀ t : Fin cfg1.N, win1_1.index t = ![0, 0, 0] := (by decide +kernel : ∀ t : Fin grid1.N, _)
/-- The second call reads the running sums as one block. -/
theorem at2 : ∀ t : Fin cfg1.N, win1_2.index t = ![0, 0] := (by decide +kernel : ∀ t : Fin grid1.N, _)

/-- What the second call reads of the gathered cells is the whole array. -/
theorem read_cells (c : Dev nD) : iblk1 V c 0 t1_0 = V c main_v1_1 := by blk_ext! [iblk1, at0 t1_0]
/-- What the second call reads of the targets is the whole array. -/
theorem read_rows (c : Dev nD) : iblk1 V c 1 t1_0 = V c main_v0 := by blk_ext! [iblk1, at1 t1_0]
/-- What the second call reads of the running sums is the whole array. -/
theorem read_sum (c : Dev nD) : iblk1 V c 2 t1_0 = V c main_v1_0 := by blk_ext! [iblk1, at2 t1_0]

/-- The array of the second call: its output block of the three whole arrays. -/
theorem whole_array (c : Dev nD) : (dat1 V c).arrAt 3 cfg1.N = out1_3 (V c main_v1_1) (V c main_v0) (V c main_v1_0) := by
  refine (dat1 V c).arrAt_eq_of_after_last 3 t1_0 (by decide +kernel) _ fun j => ?_
  blk_simp
  rw [after1_3, read_cells, read_rows, read_sum]

end Cert.Loss

end
-- ==== Proof.KernelRun.lean ====
/- The kernel's run with its five results read: the host arithmetic on the second call's array. -/
module

public import proofs.«01_k».proof.Proof.Regions
public import Idealize.ShloMosaic.Adequacy
public import Idealize.ShloMosaic.Init

@[expose] public section

noncomputable section

namespace Cert.Loss

open Cert.KernelIdeal Cert.KernelIdeal.Gen Idealize.ShloMosaic Idealize.ShloMosaic.TcCoe Idealize.SL.Sem Idealize.SL

section Run

open Idealize.SL.RA Idealize.SL.BI
open scoped Idealize.SL.BI
open Idealize.SL.BI.BIBase Idealize.SL.BI.Laws Idealize.SL.ProofMode Idealize.ShloMosaic.Tactic
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer the host can see ends at the contents the last stretch of host operations leaves. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Run

variable (m : (ℓ : Loc nD τ sig) → Buf (Elt Ideal) ℓ) (ρ : Dev nD → PrngReg)

/-- The predictions and the targets at launch. -/
abbrev preds (c : Dev nD) : Vec Ideal S32x3x26x26x95 .f32 := m ((c : Thread nD τ).loc main_arg0)
abbrev targs (c : Dev nD) : Vec Ideal S32x50x9 .i32 := m ((c : Thread nD τ).loc main_arg1)

/-- The five numbers: entry `j` of the second call's array. -/
abbrev whole (c : Dev nD) : Vec Ideal S1x8 .f32 := W3 m ρ c (Proc.devRef .tc main_v2)

/-- The number of cells that hold a box, and of the others, never below one. -/
abbrev manyHas (n : EReal) : EReal := max n 1
abbrev manyNo (n : EReal) : EReal := max (Ideal.ofBits .f32 0x477D8000#32 - n) 1

/-- The five results as the host computes them. -/
theorem loss_read (c : Dev nD) (i : S_.Idx) : (W4 m ρ c (Proc.devRef .tc main_v20) : Vec Ideal S_ .f32) i
    = Ideal.div (whole m ρ c (ix2 0 0) + whole m ρ c (ix2 0 1) + whole m ρ c (ix2 0 2) + whole m ρ c (ix2 0 3)) (Ideal.ofBits .f32 0x477D8000#32) := by
  after_results
  pointwise
/-- The kernel's second result is the box sum over the number of boxes. -/
theorem box_result (c : Dev nD) (i : S_.Idx) : (W4 m ρ c (Proc.devRef .tc main_v21) : Vec Ideal S_ .f32) i
    = Ideal.div (whole m ρ c (ix2 0 0)) (manyHas (whole m ρ c (ix2 0 4))) := by
  after_results
  pointwise
/-- The third result is the object sum over the number of boxes. -/
theorem obj_result (c : Dev nD) (i : S_.Idx) : (W4 m ρ c (Proc.devRef .tc main_v22) : Vec Ideal S_ .f32) i
    = Ideal.div (whole m ρ c (ix2 0 1)) (manyHas (whole m ρ c (ix2 0 4))) := by
  after_results
  pointwise
/-- The fourth result is the no-object sum over the number of cells without a box. -/
theorem no_result (c : Dev nD) (i : S_.Idx) : (W4 m ρ c (Proc.devRef .tc main_v23) : Vec Ideal S_ .f32) i
    = Ideal.div (whole m ρ c (ix2 0 2)) (manyNo (whole m ρ c (ix2 0 4))) := by
  after_results
  pointwise
/-- The fifth result is the class sum over the number of boxes. -/
theorem cls_result (c : Dev nD) (i : S_.Idx) : (W4 m ρ c (Proc.devRef .tc main_v24) : Vec Ideal S_ .f32) i
    = Ideal.div (whole m ρ c (ix2 0 3)) (manyHas (whole m ρ c (ix2 0 4))) := by
  after_results
  pointwise

/-! ## What the second call is given -/

/-- The transposed targets. -/
theorem rows_given (c : Dev nD) : rowsOf (V2 m ρ c main_v0 : Vec Ideal S9x32x50 .i32) = fun b t f => targs m c (ix3 b t f) := by
  funext b t f
  have h : V2 m ρ c main_v0 = W1 m ρ c (Proc.devRef .tc main_v0) := W2_of m ρ c main_v0 (by decide)
  show (V2 m ρ c main_v0 : Vec Ideal S9x32x50 .i32) (ix3 f b t) = _
  rw [h]
  after_results
  pointwise

/-- The gathered cells. -/
theorem cells_given (c : Dev nD) : gathered (V2 m ρ c main_v1_1 : Vec Ideal S4x8x28x95 .f32)
    = fun b e k => preds m c (ix5 b (coordA e) (coordY e) (coordX e) k) := by
  funext b e k
  have h : V2 m ρ c main_v1_1 = (dat0 (V1 m ρ) c).arrAt 2 cfg0.N := W2_arr m ρ c 2
  have h1 : V1 m ρ c main_arg0 = m ((c : Thread nD τ).loc main_arg0) := W1_args m ρ c main_arg0 (by decide)
  show (V2 m ρ c main_v1_1 : Vec Ideal S4x8x28x95 .f32) (ix4 _ _ e k) = _
  rw [h]
  refine (cells_array (V1 m ρ) c _ _ e k).trans ?_
  show V1 m ρ c main_arg0 _ = _
  rw [h1]
  refine congrArg (preds m c) ?_
  refine congrArg (fun b' => ix5 b' (coordA e) (coordY e) (coordX e) k) (Fin.ext ?_)
  show 8 * (b.val / 8) + b.val % 8 = b.val
  omega

/-- The running sum of the first call. -/
theorem sum_given (c : Dev nD) : (V2 m ρ c main_v1_0 : Vec Ideal S1x8 .f32) = running (V1 m ρ) c 3 (by rw [show cfg0.N = 4 from N_0]; decide) := by
  have h : V2 m ρ c main_v1_0 = (dat0 (V1 m ρ) c).arrAt 1 cfg0.N := W2_arr m ρ c 1
  rw [h]
  exact sum_array (V1 m ρ) c

/-- The second call's array. -/
theorem whole_given (c : Dev nD) : whole m ρ c = out1_3 (V2 m ρ c main_v1_1) (V2 m ρ c main_v0) (V2 m ρ c main_v1_0) := by
  have h : W3 m ρ c (Proc.devRef .tc main_v2) = (dat1 (V2 m ρ) c).arrAt 3 cfg1.N := W3_arr m ρ c 3
  show W3 m ρ c (Proc.devRef .tc main_v2) = _
  rw [h]
  exact whole_array (V2 m ρ) c

/-- The targets by image, row and field. -/
abbrev rows (c : Dev nD) : Rows := fun b t f => targs m c (ix3 b t f)

variable (h : ∀ c, InRange (rows m c))

include h

/-- The rows that the second call reads are in range. -/
theorem range_given (c : Dev nD) : InRange (rowsOf (V2 m ρ c main_v0 : Vec Ideal S9x32x50 .i32)) := by
  rw [rows_given]; exact h c

/-- The second call's box sum, in the targets' terms. -/
theorem whole_box (c : Dev nD) : whole m ρ c (ix2 0 0) = ∑ b, ∑ e, (hasBox (rows m c) b e : EReal)
    * boxLoss 1 (fun k => preds m c (ix5 b (coordA e) (coordY e) (coordX e) k)) (coordA e) (coordY e) (coordX e) (held (rows m c) b e) := by
  rw [whole_given, out_box _ _ _ (range_given m ρ h c), sum_given, running_zero, zero_add, rows_given, cells_given]

/-- The second call's object sum, in the targets' terms. -/
theorem whole_obj (c : Dev nD) : whole m ρ c (ix2 0 1) = ((∑ b, ∑ e, hasBox (rows m c) b e
    * (2 * (0 - clamped (prob (preds m c (ix5 b (coordA e) (coordY e) (coordX e) 4))))) : ℝ) : EReal) := by
  rw [whole_given, out_obj _ _ _ (range_given m ρ h c), sum_given, running_one, zero_add, rows_given, cells_given]

/-- The second call's no-object sum, in the targets' terms. -/
theorem whole_no (c : Dev nD) : whole m ρ c (ix2 0 2) = ((emptyNo (preds m c) + 1 / 4 * ∑ b, ∑ e, hasBox (rows m c) b e
    * (100 - (0 - clamped (1 - prob (preds m c (ix5 b (coordA e) (coordY e) (coordX e) 4))))) : ℝ) : EReal) := by
  have h1 : V1 m ρ c main_arg0 = m ((c : Thread nD τ).loc main_arg0) := W1_args m ρ c main_arg0 (by decide)
  rw [whole_given, out_no _ _ _ (range_given m ρ h c), sum_given, running_two, rows_given, cells_given]
  rw [predsOf, h1, EReal.coe_add]

/-- The second call's class sum, in the targets' terms. -/
theorem whole_cls (c : Dev nD) : whole m ρ c (ix2 0 3)
    = ((∑ b, ∑ e, hasBox (rows m c) b e * (2 * ((∑ k : Fin 90, (0 - clamped (1 - prob (preds m c (ix5 b (coordA e) (coordY e) (coordX e) ⟨5 + k.val, by omega⟩)))))
        + metR (rows m c) b e 1#32 * (0 - clamped (prob (preds m c (ix5 b (coordA e) (coordY e) (coordX e) 5))) + clamped (1 - prob (preds m c (ix5 b (coordA e) (coordY e) (coordX e) 5))))
        + metR (rows m c) b e 2#32 * (0 - clamped (prob (preds m c (ix5 b (coordA e) (coordY e) (coordX e) 6))) + clamped (1 - prob (preds m c (ix5 b (coordA e) (coordY e) (coordX e) 6))))
        + (if e.val = 27 then 1 else 0) * (0 - clamped (prob (preds m c (ix5 b (coordA e) (coordY e) (coordX e) 94))) + clamped (1 - prob (preds m c (ix5 b (coordA e) (coordY e) (coordX e) 94)))))) : ℝ) : EReal) := by
  rw [whole_given, out_cls _ _ _ (range_given m ρ h c), sum_given, running_three, zero_add, rows_given, cells_given]

/-- The second call's number of boxes, in the targets' terms. -/
theorem whole_count (c : Dev nD) : whole m ρ c (ix2 0 4) = ((∑ b, ∑ e, hasBox (rows m c) b e : ℝ) : EReal) := by
  rw [whole_given, out_count _ _ _ (range_given m ρ h c), sum_given, running_four, zero_add, rows_given]

end Cert.Loss

end
-- ==== Proof.Scatter.lean ====
/- The reference's two scatters read at an index: the fields of the last row written to a grid cell, and the classes
   marked in it. -/
module

public import proofs.«01_k».proof.Proof.Gen.ReferenceIdeal.Read
public import proofs.«01_k».proof.Proof.Spec
public import Idealize.ShloMosaic.Lib.Routing.OpsSet

@[expose] public section

noncomputable section

namespace Cert.Loss

open Cert.ReferenceIdeal Cert.ReferenceIdeal.Read Cert.ReferenceIdeal.Gen Idealize.ShloMosaic

/-! ## The place a row is written to, as index words -/

/-- The anchor, row, column and class words of a row: its own if it names a box, the last ones otherwise. -/
def aWord (T : Rows) (b : Fin 32) (t : Fin 50) : BitVec 32 := if Valid T b t then T b t 6 else 2#32
def yWord (T : Rows) (b : Fin 32) (t : Fin 50) : BitVec 32 := if Valid T b t then T b t 8 else 25#32
def xWord (T : Rows) (b : Fin 32) (t : Fin 50) : BitVec 32 := if Valid T b t then T b t 7 else 25#32
def kWord (T : Rows) (b : Fin 32) (t : Fin 50) : BitVec 32 := if Valid T b t then T b t 0 - 1#32 else 89#32

/-- The three place words are a grid cell's coordinates exactly when the row is written to that cell. -/
theorem place_iff (T : Rows) (h : InRange T) (b : Fin 32) (t : Fin 50) (a : Fin 3) (y x : Fin 26) :
    ((aWord T b t).toInt = (a.val : ℤ) ∧ (yWord T b t).toInt = (y.val : ℤ) ∧ (xWord T b t).toInt = (x.val : ℤ))
      ↔ ∃ c, cellOf a y x = some c ∧ cellNo T b t = c.val := by
  have ha := a.isLt
  unfold aWord yWord xWord cellNo
  by_cases hv : Valid T b t
  · simp only [if_pos hv]
    rw [small_int T h, small_int T h, small_int T h]
    have h6 := h b t 6; have h7 := h b t 7; have h8 := h b t 8
    constructor
    · rintro ⟨e6, e8, e7⟩
      refine ⟨⟨9 * a.val + 3 * y.val + x.val, by omega⟩, ?_, ?_⟩
      · unfold cellOf
        rw [dif_pos ⟨by omega, by omega⟩]
      · show _ = 9 * a.val + 3 * y.val + x.val
        omega
    · rintro ⟨c, hc, e⟩
      unfold cellOf at hc
      split at hc
      · next hb =>
        injection hc with hc
        subst hc
        have e : _ = 9 * a.val + 3 * y.val + x.val := e
        refine ⟨?_, ?_, ?_⟩ <;> omega
      · split at hc
        · injection hc with hc
          subst hc
          have e : _ = 27 := e
          omega
        · cases hc
  · simp only [if_neg hv]
    have e2 : (2#32 : BitVec 32).toInt = 2 := by decide
    have e25 : (25#32 : BitVec 32).toInt = 25 := by decide
    rw [e2, e25]
    constructor
    · rintro ⟨e6, e8, e7⟩
      refine ⟨27, ?_, rfl⟩
      unfold cellOf
      rw [dif_neg (by omega), if_pos ⟨by omega, by omega, by omega⟩]
    · rintro ⟨c, hc, e⟩
      unfold cellOf at hc
      split at hc
      · next hb =>
        injection hc with hc
        subst hc
        have e : 27 = 9 * a.val + 3 * y.val + x.val := e
        omega
      · split at hc
        · next hb => omega
        · cases hc

/-- The class word is the class a row is marked under. -/
theorem class_iff (T : Rows) (h : InRange T) (b : Fin 32) (t : Fin 50) (k : Fin 90) :
    (kWord T b t).toInt = (k.val : ℤ) ↔ classNo T b t = k.val := by
  unfold kWord classNo
  by_cases hv : Valid T b t
  · rw [if_pos hv, if_pos hv]
    have h0 := h b t 0
    have hn := hv.1
    generalize T b t 0 = w at h0 hn
    have e : (w - 1#32).toInt = ((w.toNat - 1 : ℕ) : ℤ) := by
      have : w = 1#32 ∨ w = 2#32 := by
        have hz : w.toNat ≠ 0 := fun e => hn (BitVec.eq_of_toNat_eq (by rw [e]; rfl))
        have : w.toNat = 1 ∨ w.toNat = 2 := by omega
        exact this.imp (fun e => BitVec.eq_of_toNat_eq (by rw [e]; rfl)) (fun e => BitVec.eq_of_toNat_eq (by rw [e]; rfl))
      rcases this with rfl | rfl <;> rfl
    rw [e]
    omega
  · rw [if_neg hv, if_neg hv]
    have e : (89#32 : BitVec 32).toInt = 89 := by decide
    rw [e]
    omega

/-- An index word wrapped: itself where the row names a box, counted from the end otherwise. -/
theorem wrap_word (T : Rows) (b : Fin 32) (t : Fin 50) (w n : BitVec 32) (hw : w.toNat < 2 ^ 31) :
    Scalar.select (IntOp.cmpi .slt (Scalar.select (IntOp.andi (IntOp.cmpi .ne (T b t 0) 0#32) (IntOp.cmpi .eq (T b t 5) 1#32)) w 4294967295#32) 0#32)
      (IntOp.addi (Scalar.select (IntOp.andi (IntOp.cmpi .ne (T b t 0) 0#32) (IntOp.cmpi .eq (T b t 5) 1#32)) w 4294967295#32) n)
      (Scalar.select (IntOp.andi (IntOp.cmpi .ne (T b t 0) 0#32) (IntOp.cmpi .eq (T b t 5) 1#32)) w 4294967295#32)
      = if Valid T b t then w else IntOp.addi 4294967295#32 n := by
  have hu : IntOp.andi (IntOp.cmpi .ne (T b t 0) 0#32) (IntOp.cmpi .eq (T b t 5) 1#32) = if Valid T b t then 1#1 else 0#1 := valid_word T b t
  rw [hu]
  by_cases hv : Valid T b t
  · rw [if_pos hv, if_pos hv, select_one, Routing.wrap_of_lt _ _ hw]
  · rw [if_neg hv, if_neg hv, select_zero]
    rfl

variable (x1 : Vec Ideal S32x50x9 .i32)

/-- The targets by image, row and field. -/
abbrev targRows : Rows := fun b t f => x1 (ix3 b t f)

/-- The image and the row that update `n` of a scatter is. -/
def imageOf (n : Fin 1600) : Fin 32 := ⟨n.val / 50, by omega⟩
def rowOf (n : Fin 1600) : Fin 50 := ⟨n.val % 50, by omega⟩

/-- The word of an update's image, as an integer. -/
theorem image_int (n : Fin 1600) : (BitVec.ofNat 32 (n.val / 50)).toInt = ((imageOf n).val : ℤ) := by
  have : n.val / 50 < 32 := (imageOf n).isLt
  rw [int_of_small _ (by rw [BitVec.toNat_ofNat]; omega), BitVec.toNat_ofNat]
  show ((n.val / 50 % 2 ^ 32 : ℕ) : ℤ) = ((n.val / 50 : ℕ) : ℤ)
  omega

/-- The word of an update's image is not negative, so it does not wrap. -/
theorem image_wrap (n : Fin 1600) (m : BitVec 32) : Scalar.select (IntOp.cmpi .slt (BitVec.ofNat 32 (n.val / 50)) 0#32)
    (IntOp.addi (BitVec.ofNat 32 (n.val / 50)) m) (BitVec.ofNat 32 (n.val / 50)) = BitVec.ofNat 32 (n.val / 50) :=
  Routing.wrap_of_lt _ _ (by
    have : n.val / 50 < 32 := (imageOf n).isLt
    rw [BitVec.toNat_ofNat]; omega)

/-! ## The index words of the scatter of fields -/

/-- The image that an update's index names. -/
theorem field_b (n : Fin 1600) : val_main_v57 (F := Ideal) x1 (ix2 n (0 : Fin 4)) = BitVec.ofNat 32 (n.val / 50) := by
  unfold val_main_v57
  pointwise
  pointwise [val_main_v53, val_main_v37, val_main_v34, val_main_v36, val_main_v28, val_main_v12, val_main_v11, val_main_v10, val_main_v33,
    val_main_v35, val_main_c_6, val_main_c_7]
  exact image_wrap n _

/-- The anchor that an update's index names. -/
theorem field_a (h : InRange (targRows x1)) (n : Fin 1600) : val_main_v57 (F := Ideal) x1 (ix2 n (1 : Fin 4)) = aWord (targRows x1) (imageOf n) (rowOf n) := by
  unfold val_main_v57
  pointwise
  pointwise [val_main_v54, val_main_v42, val_main_v39, val_main_v41, val_main_v29, val_main_v15, val_main_v9, val_main_v14, val_main_call0_v1,
    val_main_v38, val_main_v40, val_main_v4, val_main_v8, val_main_v2, val_main_v3, val_main_v6, val_main_v7, val_main_v1, val_main_v5,
    val_main_c, val_main_c_0, val_main_c_1, val_main_c_8, val_main_c_9, val_main_v13, val_main_call0_v0]
  exact wrap_word (targRows x1) (imageOf n) (rowOf n) _ _ (lt_trans (h (imageOf n) (rowOf n) 6) (by decide))

/-- The row that an update's index names. -/
theorem field_y (h : InRange (targRows x1)) (n : Fin 1600) : val_main_v57 (F := Ideal) x1 (ix2 n (2 : Fin 4)) = yWord (targRows x1) (imageOf n) (rowOf n) := by
  unfold val_main_v57
  pointwise
  pointwise [val_main_v55, val_main_v47, val_main_v44, val_main_v46, val_main_v30, val_main_v21, val_main_v9, val_main_v20, val_main_call2_v1,
    val_main_v43, val_main_v45, val_main_v4, val_main_v8, val_main_v2, val_main_v3, val_main_v6, val_main_v7, val_main_v1, val_main_v5,
    val_main_c, val_main_c_0, val_main_c_3, val_main_c_10, val_main_c_11, val_main_v19, val_main_call2_v0]
  exact wrap_word (targRows x1) (imageOf n) (rowOf n) _ _ (lt_trans (h (imageOf n) (rowOf n) 8) (by decide))

/-- The column that an update's index names. -/
theorem field_x (h : InRange (targRows x1)) (n : Fin 1600) : val_main_v57 (F := Ideal) x1 (ix2 n (3 : Fin 4)) = xWord (targRows x1) (imageOf n) (rowOf n) := by
  unfold val_main_v57
  pointwise
  pointwise [val_main_v56, val_main_v52, val_main_v49, val_main_v51, val_main_v31, val_main_v18, val_main_v9, val_main_v17, val_main_call1_v1,
    val_main_v48, val_main_v50, val_main_v4, val_main_v8, val_main_v2, val_main_v3, val_main_v6, val_main_v7, val_main_v1, val_main_v5,
    val_main_c, val_main_c_0, val_main_c_2, val_main_c_12, val_main_c_13, val_main_v16, val_main_call1_v0]
  exact wrap_word (targRows x1) (imageOf n) (rowOf n) _ _ (lt_trans (h (imageOf n) (rowOf n) 7) (by decide))

/-- The value of an update is the row's field as a number. -/
theorem field_val (n : Fin 1600) (f : Fin 9) : val_main_v32 (F := Ideal) x1 (ix2 n f) = num (targRows x1 (imageOf n) (rowOf n) f) := by
  pointwise [val_main_v32, val_main_v0]
  rfl

/-- On its first four axes an update of the first scatter starts at its index words, on the last at its own field. -/
theorem field_at_0 (idx : IVec S1600x4 32) (n : Fin 1600) (g : Fin 9) :
    scatter_S32x3x26x26x9_S1600x4_S1600x9_1_0123_0123_1.start (ix2 n g) idx 0 + (scatter_S32x3x26x26x9_S1600x4_S1600x9_1_0123_0123_1.window (ix2 n g) 0 : ℤ) = (idx (ix2 n (0 : Fin 4))).toInt := by
  refine (add_zero _).trans (congrArg (fun i => (idx i).toInt) (funext fun e => ?_))
  fin_cases e <;> rfl
/-- An update's place along the anchors is its second index word. -/
theorem field_at_1 (idx : IVec S1600x4 32) (n : Fin 1600) (g : Fin 9) :
    scatter_S32x3x26x26x9_S1600x4_S1600x9_1_0123_0123_1.start (ix2 n g) idx 1 + (scatter_S32x3x26x26x9_S1600x4_S1600x9_1_0123_0123_1.window (ix2 n g) 1 : ℤ) = (idx (ix2 n (1 : Fin 4))).toInt := by
  refine (add_zero _).trans (congrArg (fun i => (idx i).toInt) (funext fun e => ?_))
  fin_cases e <;> rfl
/-- An update's place along the rows is its third index word. -/
theorem field_at_2 (idx : IVec S1600x4 32) (n : Fin 1600) (g : Fin 9) :
    scatter_S32x3x26x26x9_S1600x4_S1600x9_1_0123_0123_1.start (ix2 n g) idx 2 + (scatter_S32x3x26x26x9_S1600x4_S1600x9_1_0123_0123_1.window (ix2 n g) 2 : ℤ) = (idx (ix2 n (2 : Fin 4))).toInt := by
  refine (add_zero _).trans (congrArg (fun i => (idx i).toInt) (funext fun e => ?_))
  fin_cases e <;> rfl
/-- An update's place along the columns is its fourth index word. -/
theorem field_at_3 (idx : IVec S1600x4 32) (n : Fin 1600) (g : Fin 9) :
    scatter_S32x3x26x26x9_S1600x4_S1600x9_1_0123_0123_1.start (ix2 n g) idx 3 + (scatter_S32x3x26x26x9_S1600x4_S1600x9_1_0123_0123_1.window (ix2 n g) 3 : ℤ) = (idx (ix2 n (3 : Fin 4))).toInt := by
  refine (add_zero _).trans (congrArg (fun i => (idx i).toInt) (funext fun e => ?_))
  fin_cases e <;> rfl
/-- An update's place along the fields is the field's number. -/
theorem field_at_4 (idx : IVec S1600x4 32) (n : Fin 1600) (g : Fin 9) :
    scatter_S32x3x26x26x9_S1600x4_S1600x9_1_0123_0123_1.start (ix2 n g) idx 4 + (scatter_S32x3x26x26x9_S1600x4_S1600x9_1_0123_0123_1.window (ix2 n g) 4 : ℤ) = (g.val : ℤ) := zero_add _

/-- Update `(n, g)` of the first scatter lands at a cell's field exactly when its row is written to the cell and it is that field. -/
theorem field_lands (h : InRange (targRows x1)) (n : Fin 1600) (g : Fin 9) (b : Fin 32) (a : Fin 3) (y x : Fin 26) (f : Fin 9) :
    scatter_S32x3x26x26x9_S1600x4_S1600x9_1_0123_0123_1.resultIdx? (ix2 n g) (val_main_v57 (F := Ideal) x1) = some (ix5 b a y x f)
      ↔ imageOf n = b ∧ (∃ c, cellOf a y x = some c ∧ cellNo (targRows x1) (imageOf n) (rowOf n) = c.val) ∧ g = f := by
  have e0 : (val_main_v57 (F := Ideal) x1 (ix2 n (0 : Fin 4))).toInt = ((imageOf n).val : ℤ) := by rw [field_b, image_int]
  rw [Routing.resultIdx?_eq_some, ← place_iff _ h, ← field_a x1 h, ← field_y x1 h, ← field_x x1 h]
  constructor
  · intro q
    have q0 := (field_at_0 _ n g).symm.trans (q 0)
    have q4 := (field_at_4 (val_main_v57 (F := Ideal) x1) n g).symm.trans (q 4)
    refine ⟨Fin.ext ?_, ⟨(field_at_1 _ n g).symm.trans (q 1), (field_at_2 _ n g).symm.trans (q 2), (field_at_3 _ n g).symm.trans (q 3)⟩, Fin.ext ?_⟩
    · exact Int.ofNat.inj (e0.symm.trans q0)
    · exact Int.ofNat.inj q4
  · rintro ⟨rfl, ⟨q1, q2, q3⟩, rfl⟩ e
    fin_cases e
    · exact (field_at_0 _ n g).trans e0
    · exact (field_at_1 _ n g).trans q1
    · exact (field_at_2 _ n g).trans q2
    · exact (field_at_3 _ n g).trans q3
    · exact field_at_4 _ n g

/-! ## The fields after all rows are written -/

/-- A fold that overwrites where a test holds ends at the last place it holds. -/
theorem fold_last {α : Type} : ∀ (N : ℕ) (p : Fin N → Prop) [DecidablePred p] (v : Fin N → α) (a : α) (n : Fin N), p n → (∀ q, n < q → ¬p q) →
    (List.finRange N).foldl (fun a n => if p n then v n else a) a = v n
  | 0, _, _, _, _, n, _, _ => n.elim0
  | N + 1, p, _, v, a, n, hn, hl => by
    rw [List.finRange_succ_last, List.foldl_append, List.foldl_map]
    show (if p (Fin.last N) then v (Fin.last N) else _) = v n
    by_cases h : p (Fin.last N)
    · rw [if_pos h]
      refine congrArg v ?_
      by_contra hne
      exact hl _ (lt_of_le_of_ne (Fin.le_last n) fun e => hne e.symm) h
    · rw [if_neg h]
      have hne : n ≠ Fin.last N := fun e => h (e ▸ hn)
      obtain ⟨n, rfl⟩ := Fin.exists_castSucc_eq.2 hne
      exact fold_last N (fun q => p q.castSucc) (fun q => v q.castSucc) a n hn fun q hq => hl _ hq

/-- The update that is row `t` of image `b`. -/
def updateOf (b : Fin 32) (t : Fin 50) : Fin 1600 := ⟨50 * b.val + t.val, by omega⟩

/-- The update of row `t` of image `b` belongs to image `b`. -/
theorem image_update (b : Fin 32) (t : Fin 50) : imageOf (updateOf b t) = b := Fin.ext (by
  show (50 * b.val + t.val) / 50 = b.val
  omega)
/-- The update of row `t` of image `b` belongs to row `t`. -/
theorem row_update (b : Fin 32) (t : Fin 50) : rowOf (updateOf b t) = t := Fin.ext (by
  show (50 * b.val + t.val) % 50 = t.val
  omega)

/-- A field of a grid cell in the reference is the field of the last row written to the cell. -/
theorem fields_read (h : InRange (targRows x1)) (b : Fin 32) (a : Fin 3) (y x : Fin 26) (f : Fin 9) :
    val_main_v58 (F := Ideal) x1 (ix5 b a y x f) = num (gridField (targRows x1) b a y x f) := by
  have hz : val_main_v27 (F := Ideal) (ix5 b a y x f) = num 0#32 := by
    rw [num_zero]
    pointwise [val_main_v27, val_main_cst]
  have key : ∀ k : S1600x9.Idx, k = ix2 (k 0) (k 1) := fun k => (ix2_eta k).symm
  unfold val_main_v58
  cases hc : cellOf a y x with
  | none =>
    rw [gridField_none _ _ hc, ← hz]
    refine Routing.scatter_set_miss _ _ _ _ _ fun k hk => ?_
    rw [key k] at hk
    obtain ⟨-, ⟨c, e, -⟩, -⟩ := (field_lands x1 h _ _ b a y x f).1 hk
    rw [hc] at e
    cases e
  | some c =>
    obtain ⟨rfl, rfl, rfl⟩ := coord_of hc
    rw [gridField_coord]
    rcases exists_last (fun t => cellNo (targRows x1) b t = c.val) with hn | ⟨t, ht⟩
    · rw [held_none hn, ← hz]
      refine Routing.scatter_set_miss _ _ _ _ _ fun k hk => ?_
      rw [key k] at hk
      obtain ⟨e0, ⟨c', e, e1⟩, -⟩ := (field_lands x1 h _ _ _ _ _ _ _).1 hk
      rw [hc] at e
      injection e with e
      rw [e0, ← e] at e1
      exact hn _ e1
    · have hw : Winner (targRows x1) b c t := ht
      rw [held_some hw, Routing.scatter_at]
      have hv : val_main_v32 (F := Ideal) x1 (ix2 (updateOf b t) f) = num (targRows x1 b t f) := by
        rw [field_val, image_update, row_update]
      rw [← hv]
      refine (fold_last _ _ (fun n => val_main_v32 (F := Ideal) x1 (S1600x9.rowMajor.symm n)) _ (S1600x9.rowMajor (ix2 (updateOf b t) f)) ?_ fun n hn hk => ?_).trans ?_
      · rw [Equiv.symm_apply_apply]
        exact (field_lands x1 h _ _ _ _ _ _ _).2 ⟨image_update b t, ⟨c, hc, by rw [image_update, row_update]; exact ht.1⟩, rfl⟩
      · obtain ⟨k, rfl⟩ := S1600x9.rowMajor.surjective n
        rw [Equiv.symm_apply_apply, key k] at hk
        obtain ⟨e0, ⟨c', e, e1⟩, e4⟩ := (field_lands x1 h _ _ _ _ _ _ _).1 hk
        rw [hc] at e
        injection e with e
        rw [e0, ← e] at e1
        have hn : (S1600x9.rowMajor (ix2 (updateOf b t) f)).val < (S1600x9.rowMajor k).val := hn
        rw [Shape.rowMajor_val_two, Shape.rowMajor_val_two] at hn
        have hn : (50 * b.val + t.val) * 9 + f.val < (k 0).val * 9 + (k 1).val := hn
        have e0 : (k 0).val / 50 = b.val := congrArg Fin.val e0
        have e4 : (k 1).val = f.val := congrArg Fin.val e4
        refine ht.2 (rowOf (k 0)) ?_ e1
        show t.val < (k 0).val % 50
        omega
      · rw [Equiv.symm_apply_apply]

end Cert.Loss

end
-- ==== Proof.Marks.lean ====
/- The reference's second scatter read at an index: the classes marked in a grid cell. -/
module

public import proofs.«01_k».proof.Proof.Scatter

@[expose] public section

noncomputable section

namespace Cert.Loss

open Cert.ReferenceIdeal Cert.ReferenceIdeal.Read Cert.ReferenceIdeal.Gen Idealize.ShloMosaic

variable (x1 : Vec Ideal S32x50x9 .i32)

/-! ## The index words of the scatter of classes -/

/-- The image that a class mark's index names. -/
theorem mark_b (n : Fin 1600) : val_main_v95 (F := Ideal) x1 (ix2 n (0 : Fin 5)) = BitVec.ofNat 32 (n.val / 50) := by
  unfold val_main_v95
  pointwise
  pointwise [val_main_v90, val_main_v69, val_main_v66, val_main_v68, val_main_v60, val_main_v12, val_main_v11, val_main_v10, val_main_v65,
    val_main_v67, val_main_c_15, val_main_c_16]
  exact image_wrap n _

/-- The anchor that a class mark's index names. -/
theorem mark_a (h : InRange (targRows x1)) (n : Fin 1600) : val_main_v95 (F := Ideal) x1 (ix2 n (1 : Fin 5)) = aWord (targRows x1) (imageOf n) (rowOf n) := by
  unfold val_main_v95
  pointwise
  pointwise [val_main_v91, val_main_v74, val_main_v71, val_main_v73, val_main_v61, val_main_v15, val_main_v14, val_main_v13, val_main_v70, val_main_v72, val_main_v9, val_main_v4, val_main_v8, val_main_v2, val_main_v3, val_main_v6, val_main_v7, val_main_v1, val_main_v5,
    val_main_c, val_main_c_0, val_main_c_1, val_main_c_17, val_main_c_18, val_main_call0_v0, val_main_call0_v1]
  exact wrap_word (targRows x1) (imageOf n) (rowOf n) _ _ (lt_trans (h (imageOf n) (rowOf n) 6) (by decide))

/-- The row that a class mark's index names. -/
theorem mark_y (h : InRange (targRows x1)) (n : Fin 1600) : val_main_v95 (F := Ideal) x1 (ix2 n (2 : Fin 5)) = yWord (targRows x1) (imageOf n) (rowOf n) := by
  unfold val_main_v95
  pointwise
  pointwise [val_main_v92, val_main_v79, val_main_v76, val_main_v78, val_main_v62, val_main_v21, val_main_v20, val_main_v19, val_main_v75, val_main_v77, val_main_v9, val_main_v4, val_main_v8, val_main_v2, val_main_v3, val_main_v6, val_main_v7, val_main_v1, val_main_v5,
    val_main_c, val_main_c_0, val_main_c_3, val_main_c_19, val_main_c_20, val_main_call2_v0, val_main_call2_v1]
  exact wrap_word (targRows x1) (imageOf n) (rowOf n) _ _ (lt_trans (h (imageOf n) (rowOf n) 8) (by decide))

/-- The column that a class mark's index names. -/
theorem mark_x (h : InRange (targRows x1)) (n : Fin 1600) : val_main_v95 (F := Ideal) x1 (ix2 n (3 : Fin 5)) = xWord (targRows x1) (imageOf n) (rowOf n) := by
  unfold val_main_v95
  pointwise
  pointwise [val_main_v93, val_main_v84, val_main_v81, val_main_v83, val_main_v63, val_main_v18, val_main_v17, val_main_v16, val_main_v80, val_main_v82, val_main_v9, val_main_v4, val_main_v8, val_main_v2, val_main_v3, val_main_v6, val_main_v7, val_main_v1, val_main_v5,
    val_main_c, val_main_c_0, val_main_c_2, val_main_c_21, val_main_c_22, val_main_call1_v0, val_main_call1_v1]
  exact wrap_word (targRows x1) (imageOf n) (rowOf n) _ _ (lt_trans (h (imageOf n) (rowOf n) 7) (by decide))

/-- One less than the class of a row, wrapped. -/
theorem class_word (T : Rows) (h : InRange T) (b : Fin 32) (t : Fin 50) :
    Scalar.select (IntOp.cmpi .slt (Scalar.select (IntOp.andi (IntOp.cmpi .ne (T b t 0) 0#32) (IntOp.cmpi .eq (T b t 5) 1#32)) (IntOp.subi (T b t 0) 1#32) 4294967295#32) 0#32)
      (IntOp.addi (Scalar.select (IntOp.andi (IntOp.cmpi .ne (T b t 0) 0#32) (IntOp.cmpi .eq (T b t 5) 1#32)) (IntOp.subi (T b t 0) 1#32) 4294967295#32) 90#32)
      (Scalar.select (IntOp.andi (IntOp.cmpi .ne (T b t 0) 0#32) (IntOp.cmpi .eq (T b t 5) 1#32)) (IntOp.subi (T b t 0) 1#32) 4294967295#32)
      = kWord T b t := by
  unfold kWord
  by_cases hv : Valid T b t
  · rw [if_pos hv]
    refine (wrap_word T b t _ _ ?_).trans (if_pos hv)
    show (T b t 0 - 1#32).toNat < 2 ^ 31
    have h0 := h b t 0
    have hn := hv.1
    generalize T b t 0 = w at h0 hn
    have hz : w.toNat ≠ 0 := fun e => hn (BitVec.eq_of_toNat_eq (by rw [e]; rfl))
    have : w = 1#32 ∨ w = 2#32 := by
      have : w.toNat = 1 ∨ w.toNat = 2 := by omega
      exact this.imp (fun e => BitVec.eq_of_toNat_eq (by rw [e]; rfl)) (fun e => BitVec.eq_of_toNat_eq (by rw [e]; rfl))
    rcases this with rfl | rfl <;> decide
  · have hu : IntOp.andi (IntOp.cmpi .ne (T b t 0) 0#32) (IntOp.cmpi .eq (T b t 5) 1#32) = if Valid T b t then 1#1 else 0#1 := valid_word T b t
    rw [if_neg hv, hu, if_neg hv, select_zero]
    rfl

/-- The class that a class mark's index names. -/
theorem mark_k (h : InRange (targRows x1)) (n : Fin 1600) : val_main_v95 (F := Ideal) x1 (ix2 n (4 : Fin 5)) = kWord (targRows x1) (imageOf n) (rowOf n) := by
  unfold val_main_v95
  pointwise
  pointwise [val_main_v94, val_main_v89, val_main_v86, val_main_v88, val_main_v64, val_main_v26, val_main_v25, val_main_v23, val_main_v22, val_main_v24, val_main_v85, val_main_v87, val_main_v9, val_main_v4, val_main_v8, val_main_v2, val_main_v3, val_main_v6, val_main_v7, val_main_v1, val_main_v5,
    val_main_c, val_main_c_0, val_main_c_4, val_main_c_5, val_main_c_23, val_main_c_24, val_main_call3_v0, val_main_call3_v1]
  exact class_word (targRows x1) h (imageOf n) (rowOf n)

/-- On each axis an update of the second scatter starts at its index words. -/
theorem mark_at_0 (idx : IVec S1600x5 32) (n : Fin 1600) :
    scatter_S32x3x26x26x90_S1600x5_S1600_n_01234_01234_1.start (ix1 n) idx 0 + (scatter_S32x3x26x26x90_S1600x5_S1600_n_01234_01234_1.window (ix1 n) 0 : ℤ) = (idx (ix2 n (0 : Fin 5))).toInt := by
  refine (add_zero _).trans (congrArg (fun i => (idx i).toInt) (funext fun e => ?_))
  fin_cases e <;> rfl
/-- A mark's place along the anchors is its second index word. -/
theorem mark_at_1 (idx : IVec S1600x5 32) (n : Fin 1600) :
    scatter_S32x3x26x26x90_S1600x5_S1600_n_01234_01234_1.start (ix1 n) idx 1 + (scatter_S32x3x26x26x90_S1600x5_S1600_n_01234_01234_1.window (ix1 n) 1 : ℤ) = (idx (ix2 n (1 : Fin 5))).toInt := by
  refine (add_zero _).trans (congrArg (fun i => (idx i).toInt) (funext fun e => ?_))
  fin_cases e <;> rfl
/-- A mark's place along the rows is its third index word. -/
theorem mark_at_2 (idx : IVec S1600x5 32) (n : Fin 1600) :
    scatter_S32x3x26x26x90_S1600x5_S1600_n_01234_01234_1.start (ix1 n) idx 2 + (scatter_S32x3x26x26x90_S1600x5_S1600_n_01234_01234_1.window (ix1 n) 2 : ℤ) = (idx (ix2 n (2 : Fin 5))).toInt := by
  refine (add_zero _).trans (congrArg (fun i => (idx i).toInt) (funext fun e => ?_))
  fin_cases e <;> rfl
/-- A mark's place along the columns is its fourth index word. -/
theorem mark_at_3 (idx : IVec S1600x5 32) (n : Fin 1600) :
    scatter_S32x3x26x26x90_S1600x5_S1600_n_01234_01234_1.start (ix1 n) idx 3 + (scatter_S32x3x26x26x90_S1600x5_S1600_n_01234_01234_1.window (ix1 n) 3 : ℤ) = (idx (ix2 n (3 : Fin 5))).toInt := by
  refine (add_zero _).trans (congrArg (fun i => (idx i).toInt) (funext fun e => ?_))
  fin_cases e <;> rfl
/-- A mark's place along the classes is its fifth index word. -/
theorem mark_at_4 (idx : IVec S1600x5 32) (n : Fin 1600) :
    scatter_S32x3x26x26x90_S1600x5_S1600_n_01234_01234_1.start (ix1 n) idx 4 + (scatter_S32x3x26x26x90_S1600x5_S1600_n_01234_01234_1.window (ix1 n) 4 : ℤ) = (idx (ix2 n (4 : Fin 5))).toInt := by
  refine (add_zero _).trans (congrArg (fun i => (idx i).toInt) (funext fun e => ?_))
  fin_cases e <;> rfl

/-- Update `n` of the second scatter lands at a cell's class exactly when its row is written to the cell under that class. -/
theorem mark_lands (h : InRange (targRows x1)) (n : Fin 1600) (b : Fin 32) (a : Fin 3) (y x : Fin 26) (k : Fin 90) :
    scatter_S32x3x26x26x90_S1600x5_S1600_n_01234_01234_1.resultIdx? (ix1 n) (val_main_v95 (F := Ideal) x1) = some (ix5 b a y x k)
      ↔ imageOf n = b ∧ (∃ c, cellOf a y x = some c ∧ cellNo (targRows x1) (imageOf n) (rowOf n) = c.val)
        ∧ classNo (targRows x1) (imageOf n) (rowOf n) = k.val := by
  have e0 : (val_main_v95 (F := Ideal) x1 (ix2 n (0 : Fin 5))).toInt = ((imageOf n).val : ℤ) := by rw [mark_b, image_int]
  rw [Routing.resultIdx?_eq_some, ← place_iff _ h, ← class_iff _ h, ← mark_a x1 h, ← mark_y x1 h, ← mark_x x1 h, ← mark_k x1 h]
  constructor
  · intro q
    have q0 := (mark_at_0 _ n).symm.trans (q 0)
    exact ⟨Fin.ext (Int.ofNat.inj (e0.symm.trans q0)), ⟨(mark_at_1 _ n).symm.trans (q 1), (mark_at_2 _ n).symm.trans (q 2),
      (mark_at_3 _ n).symm.trans (q 3)⟩, (mark_at_4 _ n).symm.trans (q 4)⟩
  · rintro ⟨rfl, ⟨q1, q2, q3⟩, q4⟩ e
    fin_cases e
    · exact (mark_at_0 _ n).trans e0
    · exact (mark_at_1 _ n).trans q1
    · exact (mark_at_2 _ n).trans q2
    · exact (mark_at_3 _ n).trans q3
    · exact (mark_at_4 _ n).trans q4

/-- A class is marked in a grid cell in the reference if some row is written to the cell under it. -/
theorem marks_read (h : InRange (targRows x1)) (b : Fin 32) (a : Fin 3) (y x : Fin 26) (k : Fin 90) :
    val_main_v97 (F := Ideal) x1 (ix5 b a y x k) = (gridMark (targRows x1) b a y x k : EReal) := by
  have hz : val_main_v59 (F := Ideal) (ix5 b a y x k) = ((0 : ℝ) : EReal) := by
    rw [EReal.coe_zero]
    pointwise [val_main_v59, val_main_cst_14]
  have key : ∀ i : S1600.Idx, i = ix1 (i 0) := fun i => (ix1_eta i).symm
  unfold val_main_v97
  cases hc : cellOf a y x with
  | none =>
    have e : gridMark (targRows x1) b a y x k = 0 := by unfold gridMark; rw [hc]; rfl
    rw [e, ← hz]
    refine Routing.scatter_set_miss _ _ _ _ _ fun i hi => ?_
    rw [key i] at hi
    obtain ⟨-, ⟨c, e, -⟩, -⟩ := (mark_lands x1 h _ b a y x k).1 hi
    rw [hc] at e
    cases e
  | some c =>
    by_cases hm : Marked (targRows x1) b c k
    · have e : gridMark (targRows x1) b a y x k = 1 := by unfold gridMark; rw [hc]; exact if_pos hm
      rw [e, EReal.coe_one]
      obtain ⟨t, h1, h2⟩ := hm
      refine Routing.scatter_set_hit _ _ _ _ _ _ (fun i _ => ?_) (ix1 (updateOf b t)) ?_
      · rw [key i]
        pointwise [val_main_v96, val_main_cst_25]
      · refine (mark_lands x1 h _ b a y x k).2 ⟨image_update b t, ⟨c, hc, ?_⟩, ?_⟩
        · rw [image_update, row_update]; exact h1
        · rw [image_update, row_update]; exact h2
    · have e : gridMark (targRows x1) b a y x k = 0 := by unfold gridMark; rw [hc]; exact if_neg hm
      rw [e, ← hz]
      refine Routing.scatter_set_miss _ _ _ _ _ fun i hi => hm ?_
      rw [key i] at hi
      obtain ⟨e0, ⟨c', e, e1⟩, e2⟩ := (mark_lands x1 h _ b a y x k).1 hi
      rw [hc] at e
      injection e with e
      rw [e0] at e1 e2
      exact ⟨rowOf (i 0), e ▸ e1, e2⟩

end Cert.Loss

end
-- ==== Proof.RefValue.lean ====
/- The reference's losses of one grid cell, as the numbers of `Spec`, and their sums over the batch. -/
module

public import proofs.«01_k».proof.Proof.Marks

@[expose] public section

noncomputable section

namespace Cert.Loss

open Cert.ReferenceIdeal Cert.ReferenceIdeal.Read Cert.ReferenceIdeal.Gen Idealize.ShloMosaic

variable (x0 : Vec Ideal S32x3x26x26x95 .f32) (x1 : Vec Ideal S32x50x9 .i32)

/-! ## Whether a cell holds a box -/

/-- A word's number is zero only for the zero word. -/
theorem num_eq_zero (w : BitVec 32) : num w = 0 ↔ w = 0#32 := by
  show ((w.toInt : ℝ) : EReal) = 0 ↔ _
  rw [← EReal.coe_zero, EReal.coe_eq_coe_iff, Int.cast_eq_zero]
  exact ⟨fun e => BitVec.eq_of_toInt_eq e, fun e => by rw [e]; rfl⟩

/-- A grid cell holds a box unless its class field is 0. -/
theorem gridHas_if (T : Rows) (b : Fin 32) (a : Fin 3) (y x : Fin 26) : gridHas T b a y x = if gridField T b a y x 0 = 0#32 then 0 else 1 := by
  unfold gridHas gridField
  cases cellOf a y x with
  | none => exact (if_pos rfl).symm
  | some c => rfl

/-- The class of a cell is field 0 of what the first scatter leaves. -/
theorem field0_read (b : Fin 32) (a : Fin 3) (y x : Fin 26) : val_main_v99 (F := Ideal) x1 (ix4 b a y x) = val_main_v58 (F := Ideal) x1 (ix5 b a y x (0 : Fin 9)) := by
  pointwise [val_main_v99, val_main_v98]
/-- The target centre in x is field 1. -/
theorem field1_read (b : Fin 32) (a : Fin 3) (y x : Fin 26) : val_main_v101 (F := Ideal) x1 (ix4 b a y x) = val_main_v58 (F := Ideal) x1 (ix5 b a y x (1 : Fin 9)) := by
  pointwise [val_main_v101, val_main_v100]
/-- The target centre in y is field 2. -/
theorem field2_read (b : Fin 32) (a : Fin 3) (y x : Fin 26) : val_main_v103 (F := Ideal) x1 (ix4 b a y x) = val_main_v58 (F := Ideal) x1 (ix5 b a y x (2 : Fin 9)) := by
  pointwise [val_main_v103, val_main_v102]
/-- The target width is field 3. -/
theorem field3_read (b : Fin 32) (a : Fin 3) (y x : Fin 26) : val_main_v105 (F := Ideal) x1 (ix4 b a y x) = val_main_v58 (F := Ideal) x1 (ix5 b a y x (3 : Fin 9)) := by
  pointwise [val_main_v105, val_main_v104]
/-- The target height is field 4. -/
theorem field4_read (b : Fin 32) (a : Fin 3) (y x : Fin 26) : val_main_v107 (F := Ideal) x1 (ix4 b a y x) = val_main_v58 (F := Ideal) x1 (ix5 b a y x (4 : Fin 9)) := by
  pointwise [val_main_v107, val_main_v106]

/-- The reference's `has` of a cell. -/
theorem grid_has_read (h : InRange (targRows x1)) (b : Fin 32) (a : Fin 3) (y x : Fin 26) :
    val_main_v110 (F := Ideal) x1 (ix4 b a y x) = (gridHas (targRows x1) b a y x : EReal) := by
  pointwise [val_main_v110, val_main_v109, val_main_v108, val_main_cst_26]
  rw [field0_read, fields_read x1 h, gridHas_if]
  by_cases e : gridField (targRows x1) b a y x 0 = 0#32
  · rw [if_pos e, e, num_zero, decide_eq_false (fun n => n rfl)]
    show (((0#1 : BitVec 1).toNat : ℝ) : EReal) = _
    simp
  · rw [if_neg e, decide_eq_true (show num (gridField (targRows x1) b a y x 0) ≠ 0 from fun n => e ((num_eq_zero _).1 n))]
    show (((1#1 : BitVec 1).toNat : ℝ) : EReal) = _
    simp

/-- The reference's `no` of a cell. -/
theorem hasnt_read (h : InRange (targRows x1)) (b : Fin 32) (a : Fin 3) (y x : Fin 26) :
    val_main_v113 (F := Ideal) x1 (ix4 b a y x) = ((1 - gridHas (targRows x1) b a y x : ℝ) : EReal) := by
  pointwise [val_main_v113, val_main_v112, val_main_v111, val_main_cst_27]
  rw [field0_read, fields_read x1 h, gridHas_if]
  by_cases e : gridField (targRows x1) b a y x 0 = 0#32
  · rw [if_pos e, e, num_zero, decide_eq_true rfl]
    show (((1#1 : BitVec 1).toNat : ℝ) : EReal) = _
    simp
  · rw [if_neg e, decide_eq_false (fun n => e ((num_eq_zero _).1 n))]
    show (((0#1 : BitVec 1).toNat : ℝ) : EReal) = _
    simp

/-! ## The predictions of a cell -/

/-- The reference's confidence of a cell. -/
theorem prob_read (b : Fin 32) (a : Fin 3) (y x : Fin 26) : val_main_v172 (F := Ideal) x0 (ix4 b a y x) = (prob (x0 (ix5 b a y x 4)) : EReal) := by
  rw [← logistic_eq]
  pointwise [val_main_v172, val_main_v171, val_main_v170, val_main_v169, val_main_v168, val_main_v167, val_main_v166, val_main_v165, val_main_cst_42, val_main_cst_43]
  rfl

/-- The reference's class probabilities of a cell. -/
theorem cprob_read (b : Fin 32) (a : Fin 3) (y x : Fin 26) (k : Fin 90) :
    val_main_v179 (F := Ideal) x0 (ix5 b a y x k) = (prob (x0 (ix5 b a y x ⟨5 + k.val, by omega⟩)) : EReal) := by
  rw [← logistic_eq]
  pointwise [val_main_v179, val_main_v178, val_main_v177, val_main_v176, val_main_v175, val_main_v174, val_main_v173, val_main_cst_44, val_main_cst_45]
  rfl

/-- The reference's predicted centre in x. -/
theorem centre_x (b : Fin 32) (a : Fin 3) (y x : Fin 26) : val_main_v139 (F := Ideal) x0 (ix4 b a y x) = centre (x0 (ix5 b a y x 0)) x := by
  pointwise [val_main_v139, val_main_v138, val_main_v137, val_main_v136, val_main_v135, val_main_v134, val_main_v133, val_main_v132, val_main_v131,
    val_main_v130, val_main_v129, val_main_v128, val_main_v127, val_main_v126, val_main_v125, val_main_v115, val_main_v114, val_main_cst_34,
    val_main_cst_35, val_main_cst_36, val_main_cst_37]
  rfl

/-- The reference's predicted centre in y. -/
theorem centre_y (b : Fin 32) (a : Fin 3) (y x : Fin 26) : val_main_v154 (F := Ideal) x0 (ix4 b a y x) = centre (x0 (ix5 b a y x 1)) y := by
  pointwise [val_main_v154, val_main_v153, val_main_v152, val_main_v151, val_main_v150, val_main_v149, val_main_v148, val_main_v147, val_main_v146,
    val_main_v145, val_main_v144, val_main_v143, val_main_v142, val_main_v141, val_main_v140, val_main_v116, val_main_v115, val_main_v114, val_main_cst_38,
    val_main_cst_39, val_main_cst_40, val_main_cst_41]
  rfl

/-- The anchors' widths. -/
theorem widths (a : Fin 3) : val_main_v120 (F := Ideal) (ix4 0 a 0 0) = anchorW a := by
  unfold val_main_v120
  fin_cases a <;> pointwise [val_main_v117, val_main_v118, val_main_v119, val_main_cst_28, val_main_cst_29, val_main_cst_30] <;> rfl

/-- The anchors' heights. -/
theorem heights (a : Fin 3) : val_main_v124 (F := Ideal) (ix4 0 a 0 0) = anchorH a := by
  unfold val_main_v124
  fin_cases a <;> pointwise [val_main_v121, val_main_v122, val_main_v123, val_main_cst_31, val_main_cst_32, val_main_cst_33] <;> rfl

/-- The reference's predicted width. -/
theorem width_read (b : Fin 32) (a : Fin 3) (y x : Fin 26) :
    val_main_v159 (F := Ideal) x0 (ix4 b a y x) = Ideal.exp (x0 (ix5 b a y x 2)) * anchorW a := by
  pointwise [val_main_v159, val_main_v158, val_main_v157, val_main_v156, val_main_v155]
  rw [widths]

/-- The reference's predicted height. -/
theorem height_read (b : Fin 32) (a : Fin 3) (y x : Fin 26) :
    val_main_v164 (F := Ideal) x0 (ix4 b a y x) = Ideal.exp (x0 (ix5 b a y x 3)) * anchorH a := by
  pointwise [val_main_v164, val_main_v163, val_main_v162, val_main_v161, val_main_v160]
  rw [heights]

/-! ## The losses of a cell -/

/-- The logarithm taken only of positive numbers, and cut off at minus one hundred, as the reference writes it. -/
theorem log_if (p : ℝ) [i : Decidable (0 < (p : EReal))] [j : Decidable (0 < (p : EReal))] :
    (if 0 < (p : EReal) then
        max (Ideal.log (if 0 < (p : EReal) then (p : EReal) else id (constant (F := Ideal) S_ FTy.f32 1065353216#32) ix0)) (Ideal.ofBits FTy.f32 3267887104#32)
      else id (constant (F := Ideal) S_ FTy.f32 3267887104#32) ix0) = (clamped p : EReal) := by
  by_cases h : 0 < (p : EReal)
  · rw [if_pos h, if_pos h, lit_floor, log_floor]
  · rw [if_neg h]
    have h' : p ≤ 0 := by
      have := not_lt.1 h
      exact_mod_cast this
    unfold clamped
    rw [if_pos h']
    exact lit_floor

/-- The reference's box loss of a cell. -/
theorem box_read (h : InRange (targRows x1)) (b : Fin 32) (a : Fin 3) (y x : Fin 26) :
    val_main_v196 (F := Ideal) x0 x1 (ix4 b a y x)
      = boxLoss (gridHas (targRows x1) b a y x : ℝ) (fun k => x0 (ix5 b a y x k)) a y x (gridField (targRows x1) b a y x) := by
  pointwise [val_main_v196, val_main_v195, val_main_v194, val_main_v193, val_main_v192, val_main_v191, val_main_v190, val_main_v189, val_main_v188,
    val_main_v187, val_main_v186, val_main_v185, val_main_v184, val_main_v183, val_main_v182, val_main_v181, val_main_v180, val_main_cst_46]
  rw [grid_has_read x1 h, centre_x, centre_y, width_read, height_read, field1_read, field2_read, field3_read, field4_read,
    fields_read x1 h, fields_read x1 h, fields_read x1 h, fields_read x1 h]
  rfl

/-- The reference's object loss of a cell. -/
theorem obj_read (h : InRange (targRows x1)) (b : Fin 32) (a : Fin 3) (y x : Fin 26) :
    val_main_v225 (F := Ideal) x0 x1 (ix4 b a y x)
      = (objLoss (gridHas (targRows x1) b a y x) (prob (x0 (ix5 b a y x 4))) : EReal) := by
  pointwise [val_main_v225, val_main_v224, val_main_v223, val_main_v222, val_main_v221, val_main_v220, val_main_v219, val_main_v218, val_main_v217,
    val_main_v216, val_main_v215, val_main_v214, val_main_v213, val_main_v212, val_main_v211, val_main_v210, val_main_v209, val_main_v208, val_main_v207,
    val_main_v206, val_main_v205, val_main_v204, val_main_v203, val_main_v202, val_main_v201, val_main_v200, val_main_v199, val_main_v198, val_main_v197,
    val_main_call4_v0, val_main_call4_v1, val_main_call5_v0, val_main_call5_v1, val_main_call6_v0, val_main_call6_v1, val_main_call7_v0, val_main_call7_v1,
    val_main_cst_47, val_main_cst_48, val_main_cst_49, val_main_cst_50, val_main_cst_51, val_main_cst_52, val_main_cst_53, val_main_cst_54,
    val_main_cst_55, val_main_cst_56, val_main_cst_57, val_main_cst_58, val_main_cst_59]
  rw [grid_has_read x1 h, prob_read]
  rw [← EReal.coe_one, ← EReal.coe_mul, ← EReal.coe_sub, ← EReal.coe_sub, log_if, log_if, lit_two]
  unfold objLoss
  norm_cast

/-- The reference's no-object loss of a cell. -/
theorem no_read (h : InRange (targRows x1)) (b : Fin 32) (a : Fin 3) (y x : Fin 26) :
    val_main_v254 (F := Ideal) x0 x1 (ix4 b a y x)
      = (noLoss (gridHas (targRows x1) b a y x) (prob (x0 (ix5 b a y x 4))) : EReal) := by
  pointwise [val_main_v254, val_main_v253, val_main_v252, val_main_v251, val_main_v250, val_main_v249, val_main_v248, val_main_v247, val_main_v246,
    val_main_v245, val_main_v244, val_main_v243, val_main_v242, val_main_v241, val_main_v240, val_main_v239, val_main_v238, val_main_v237, val_main_v236,
    val_main_v235, val_main_v234, val_main_v233, val_main_v232, val_main_v231, val_main_v230, val_main_v229, val_main_v228, val_main_v227, val_main_v226,
    val_main_call8_v0, val_main_call8_v1, val_main_call9_v0, val_main_call9_v1, val_main_call10_v0, val_main_call10_v1, val_main_call11_v0, val_main_call11_v1,
    val_main_cst_60, val_main_cst_61, val_main_cst_62, val_main_cst_63, val_main_cst_64, val_main_cst_65, val_main_cst_66, val_main_cst_67,
    val_main_cst_68, val_main_cst_69, val_main_cst_70, val_main_cst_71, val_main_cst_72]
  rw [grid_has_read x1 h, hasnt_read x1 h, prob_read]
  rw [← EReal.coe_one, ← EReal.coe_mul, ← EReal.coe_sub, ← EReal.coe_sub, log_if, log_if, lit_quarter]
  unfold noLoss
  norm_cast

/-- The reference's loss of one class of a cell. -/
theorem class_term (h : InRange (targRows x1)) (b : Fin 32) (a : Fin 3) (y x : Fin 26) (k : Fin 90) :
    val_main_v284 (F := Ideal) x0 x1 (ix5 b a y x k)
      = ((1 * -(gridMark (targRows x1) b a y x k * clamped (prob (x0 (ix5 b a y x ⟨5 + k.val, by omega⟩)))
          + (1 - gridMark (targRows x1) b a y x k) * clamped (1 - prob (x0 (ix5 b a y x ⟨5 + k.val, by omega⟩)))) : ℝ) : EReal) := by
  pointwise [val_main_v284, val_main_v283, val_main_v282, val_main_v281, val_main_v280, val_main_v279, val_main_v278, val_main_v277, val_main_v276,
    val_main_v275, val_main_v274, val_main_v273, val_main_v272, val_main_v271, val_main_v270, val_main_v269, val_main_v268, val_main_v267, val_main_v266,
    val_main_v265, val_main_v264, val_main_v263, val_main_v262, val_main_v261, val_main_v260, val_main_v259, val_main_v258, val_main_v257,
    val_main_call12_v0, val_main_call12_v1, val_main_call13_v0, val_main_call13_v1, val_main_call14_v0, val_main_call14_v1, val_main_call15_v0, val_main_call15_v1,
    val_main_cst_74, val_main_cst_75, val_main_cst_76, val_main_cst_77, val_main_cst_78, val_main_cst_79, val_main_cst_80, val_main_cst_81,
    val_main_cst_82, val_main_cst_83, val_main_cst_84, val_main_cst_85, val_main_cst_86]
  rw [marks_read x1 h, cprob_read]
  rw [← EReal.coe_one, ← EReal.coe_sub, ← EReal.coe_sub, log_if, log_if]
  norm_cast

/-- The reference's class loss of a cell. -/
theorem cls_read (h : InRange (targRows x1)) (b : Fin 32) (a : Fin 3) (y x : Fin 26) :
    val_main_v286 (F := Ideal) x0 x1 (ix4 b a y x)
      = (clsLoss (gridHas (targRows x1) b a y x) (gridMark (targRows x1) b a y x) (fun k => prob (x0 (ix5 b a y x ⟨5 + k.val, by omega⟩))) : EReal) := by
  pointwise [val_main_v286, val_main_v256, val_main_v255, val_main_cst_73, val_main_v285_apply, val_main_cst_87, idx_main_v285]
  rw [grid_has_read x1 h]
  have e : ∀ k : Fin 90, idx_main_v285 (ix4 b a y x) k = ix5 b a y x k := fun k => by
    funext i
    fin_cases i <;> rfl
  simp only [e, class_term x0 x1 h]
  rw [lit_two, ← coe_sum, ← EReal.coe_mul, ← EReal.coe_mul]
  rfl

/-! ## The sums over the batch -/

/-- The reference's number of cells with a box, over the 28 cells. -/
theorem sum_has (h : InRange (targRows x1)) (i : S_.Idx) : val_main_v292 (F := Ideal) x1 i
    = ((∑ b, ∑ e, hasBox (targRows x1) b e : ℝ) : EReal) := by
  rw [val_main_v292_apply, sum_idx4]
  simp only [grid_has_read x1 h]
  simp only [← coe_sum]
  rw [has_sum]
  refine (congrArg (· + _) (?_ : _ = (0 : EReal))).trans (zero_add _)
  pointwise [val_main_cst_90]

/-- The reference's number of cells without a box. -/
theorem sum_hasnt (h : InRange (targRows x1)) (i : S_.Idx) : val_main_v294 (F := Ideal) x1 i
    = ((64896 - ∑ b, ∑ e, hasBox (targRows x1) b e : ℝ) : EReal) := by
  rw [val_main_v294_apply, sum_idx4]
  simp only [hasnt_read x1 h]
  simp only [← coe_sum]
  rw [hasnt_sum]
  refine (congrArg (· + _) (?_ : _ = (0 : EReal))).trans (zero_add _)
  pointwise [val_main_cst_92]

/-- The reference's sum of box losses over the 28 cells, where the last padding rows are empty. -/
theorem sum_box (h : InRange (targRows x1)) (hp : PadsEmpty (targRows x1)) (i : S_.Idx) : val_main_v296 (F := Ideal) x0 x1 i
    = ∑ b, ∑ e, (hasBox (targRows x1) b e : EReal)
      * boxLoss 1 (fun k => x0 (ix5 b (coordA e) (coordY e) (coordX e) k)) (coordA e) (coordY e) (coordX e) (held (targRows x1) b e) := by
  rw [val_main_v296_apply, sum_idx4]
  simp only [box_read x0 x1 h]
  rw [box_sum _ hp fun b a y x k => x0 (ix5 b a y x k)]
  refine (congrArg (· + _) (?_ : _ = (0 : EReal))).trans (zero_add _)
  pointwise [val_main_cst_94]

/-- The reference's sum of object losses over the 28 cells. -/
theorem sum_obj (h : InRange (targRows x1)) (i : S_.Idx) : val_main_v298 (F := Ideal) x0 x1 i
    = ((∑ b, ∑ e, hasBox (targRows x1) b e * (2 * (0 - clamped (prob (x0 (ix5 b (coordA e) (coordY e) (coordX e) 4))))) : ℝ) : EReal) := by
  rw [val_main_v298_apply, sum_idx4]
  simp only [obj_read x0 x1 h]
  simp only [← coe_sum]
  rw [obj_sum _ fun b a y x => prob (x0 (ix5 b a y x 4))]
  refine (congrArg (· + _) (?_ : _ = (0 : EReal))).trans (zero_add _)
  pointwise [val_main_cst_95]

/-- The reference's sum of no-object losses: an empty grid's and a correction in the 28 cells. -/
theorem sum_no (h : InRange (targRows x1)) (i : S_.Idx) : val_main_v300 (F := Ideal) x0 x1 i
    = ((1 / 4 * (∑ b, ∑ a, ∑ y, ∑ x, (0 - clamped (1 - prob (x0 (ix5 b a y x 4)))))
      + 1 / 4 * ∑ b, ∑ e, hasBox (targRows x1) b e * (100 - (0 - clamped (1 - prob (x0 (ix5 b (coordA e) (coordY e) (coordX e) 4))))) : ℝ) : EReal) := by
  rw [val_main_v300_apply, sum_idx4]
  simp only [no_read x0 x1 h]
  simp only [← coe_sum]
  rw [no_sum _ fun b a y x => prob (x0 (ix5 b a y x 4))]
  refine (congrArg (· + _) (?_ : _ = (0 : EReal))).trans (zero_add _)
  pointwise [val_main_cst_96]

/-- The reference's sum of class losses over the 28 cells. -/
theorem sum_cls (h : InRange (targRows x1)) (i : S_.Idx) : val_main_v302 (F := Ideal) x0 x1 i
    = ((∑ b, ∑ e, hasBox (targRows x1) b e * (2 * ((∑ k : Fin 90, (0 - clamped (1 - prob (x0 (ix5 b (coordA e) (coordY e) (coordX e) ⟨5 + k.val, by omega⟩)))))
        + metR (targRows x1) b e 1#32 * (0 - clamped (prob (x0 (ix5 b (coordA e) (coordY e) (coordX e) 5))) + clamped (1 - prob (x0 (ix5 b (coordA e) (coordY e) (coordX e) 5))))
        + metR (targRows x1) b e 2#32 * (0 - clamped (prob (x0 (ix5 b (coordA e) (coordY e) (coordX e) 6))) + clamped (1 - prob (x0 (ix5 b (coordA e) (coordY e) (coordX e) 6))))
        + (if e.val = 27 then 1 else 0) * (0 - clamped (prob (x0 (ix5 b (coordA e) (coordY e) (coordX e) 94))) + clamped (1 - prob (x0 (ix5 b (coordA e) (coordY e) (coordX e) 94)))))) : ℝ) : EReal) := by
  rw [val_main_v302_apply, sum_idx4]
  simp only [cls_read x0 x1 h]
  simp only [← coe_sum]
  rw [cls_sum _ h fun b a y x k => prob (x0 (ix5 b a y x ⟨5 + k.val, by omega⟩))]
  refine (congrArg (· + _) (?_ : _ = (0 : EReal))).trans (zero_add _)
  pointwise [val_main_cst_97]

/-- The sum of the total losses is the sum of the four losses' sums. -/
theorem sum_total (i : S_.Idx) : val_main_v290 (F := Ideal) x0 x1 i
    = val_main_v296 (F := Ideal) x0 x1 i + val_main_v298 (F := Ideal) x0 x1 i + val_main_v300 (F := Ideal) x0 x1 i + val_main_v302 (F := Ideal) x0 x1 i := by
  rw [val_main_v290_apply, val_main_v296_apply, val_main_v298_apply, val_main_v300_apply, val_main_v302_apply]
  pointwise [val_main_v289, val_main_v288, val_main_v287, val_main_cst_88, val_main_cst_94, val_main_cst_95, val_main_cst_96, val_main_cst_97]
  simp only [Finset.sum_add_distrib, zero_add]

/-! ## The five results -/

/-- The reference divides by the number of boxes, or by 1. -/
theorem many_has (i : S_.Idx) : val_main_v293 (F := Ideal) x1 i = max (val_main_v292 (F := Ideal) x1 i) 1 := by
  have e : val_main_cst_91 (F := Ideal) i = (1 : EReal) := by pointwise [val_main_cst_91]
  rw [val_main_v293_apply, e]
  generalize val_main_v292 (F := Ideal) x1 i = n
  rfl
/-- The reference divides by the number of cells without a box, or by 1. -/
theorem many_hasnt (i : S_.Idx) : val_main_v295 (F := Ideal) x1 i = max (val_main_v294 (F := Ideal) x1 i) 1 := by
  have e : val_main_cst_93 (F := Ideal) i = (1 : EReal) := by pointwise [val_main_cst_93]
  rw [val_main_v295_apply, e]
  generalize val_main_v294 (F := Ideal) x1 i = n
  rfl
/-- The first result is the mean over all cells. -/
theorem loss_value (i : S_.Idx) : val_main_v291 (F := Ideal) x0 x1 i = Ideal.div (val_main_v290 (F := Ideal) x0 x1 i) (Ideal.ofBits .f32 0x477D8000#32) := by
  have e : val_main_cst_89 (F := Ideal) i = Ideal.ofBits .f32 0x477D8000#32 := by pointwise [val_main_cst_89]
  rw [val_main_v291_apply, e]
  generalize val_main_v290 (F := Ideal) x0 x1 i = n
  rfl
/-- The second result is the box sum over the number of boxes. -/
theorem box_value (i : S_.Idx) : val_main_v297 (F := Ideal) x0 x1 i = Ideal.div (val_main_v296 (F := Ideal) x0 x1 i) (max (val_main_v292 (F := Ideal) x1 i) 1) := by
  rw [val_main_v297_apply, many_has]
  generalize val_main_v296 (F := Ideal) x0 x1 i = n
  generalize val_main_v292 (F := Ideal) x1 i = d
  rfl
/-- The third result is the object sum over the number of boxes. -/
theorem obj_value (i : S_.Idx) : val_main_v299 (F := Ideal) x0 x1 i = Ideal.div (val_main_v298 (F := Ideal) x0 x1 i) (max (val_main_v292 (F := Ideal) x1 i) 1) := by
  rw [val_main_v299_apply, many_has]
  generalize val_main_v298 (F := Ideal) x0 x1 i = n
  generalize val_main_v292 (F := Ideal) x1 i = d
  rfl
/-- The fourth result is the no-object sum over the number of cells without a box. -/
theorem no_value (i : S_.Idx) : val_main_v301 (F := Ideal) x0 x1 i = Ideal.div (val_main_v300 (F := Ideal) x0 x1 i) (max (val_main_v294 (F := Ideal) x1 i) 1) := by
  rw [val_main_v301_apply, many_hasnt]
  generalize val_main_v300 (F := Ideal) x0 x1 i = n
  generalize val_main_v294 (F := Ideal) x1 i = d
  rfl
/-- The fifth result is the class sum over the number of boxes. -/
theorem cls_value (i : S_.Idx) : val_main_v303 (F := Ideal) x0 x1 i = Ideal.div (val_main_v302 (F := Ideal) x0 x1 i) (max (val_main_v292 (F := Ideal) x1 i) 1) := by
  rw [val_main_v303_apply, many_has]
  generalize val_main_v302 (F := Ideal) x0 x1 i = n
  generalize val_main_v292 (F := Ideal) x1 i = d
  rfl

end Cert.Loss

end
-- ==== Proof.Equation.lean ====
/- The kernel's five results and the reference's: the same numbers of the same arguments. -/
module

public import proofs.«01_k».proof.Proof.KernelRun
public import proofs.«01_k».proof.Proof.RefValue

@[expose] public section

noncomputable section

namespace Cert.Loss

open Cert.ReferenceIdeal.Read Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (h : ∀ c, InRange (rows m c))

include h

/-! ## The five sums -/

/-- The number of cells with a box. -/
theorem count_same (c : Dev Cert.KernelIdeal.nD) (i : Cert.ReferenceIdeal.S_.Idx) : whole m ρ c (ix2 0 4) = val_main_v292 (F := Ideal) (targs m c) i := by
  rw [whole_count m ρ h c, sum_has _ (h c)]
/-- The sum of the box losses, where the last padding rows are empty. -/
theorem box_same (c : Dev Cert.KernelIdeal.nD) (hp : PadsEmpty (rows m c)) (i : Cert.ReferenceIdeal.S_.Idx) :
    whole m ρ c (ix2 0 0) = val_main_v296 (F := Ideal) (preds m c) (targs m c) i := by
  rw [whole_box m ρ h c, sum_box _ _ (h c) hp]
/-- The sum of the object losses. -/
theorem obj_same (c : Dev Cert.KernelIdeal.nD) (i : Cert.ReferenceIdeal.S_.Idx) : whole m ρ c (ix2 0 1) = val_main_v298 (F := Ideal) (preds m c) (targs m c) i := by
  rw [whole_obj m ρ h c, sum_obj _ _ (h c)]
/-- The sum of the no-object losses. -/
theorem no_same (c : Dev Cert.KernelIdeal.nD) (i : Cert.ReferenceIdeal.S_.Idx) : whole m ρ c (ix2 0 2) = val_main_v300 (F := Ideal) (preds m c) (targs m c) i := by
  rw [whole_no m ρ h c, sum_no _ _ (h c)]
  rfl
/-- The sum of the class losses. -/
theorem cls_same (c : Dev Cert.KernelIdeal.nD) (i : Cert.ReferenceIdeal.S_.Idx) : whole m ρ c (ix2 0 3) = val_main_v302 (F := Ideal) (preds m c) (targs m c) i := by
  rw [whole_cls m ρ h c, sum_cls _ _ (h c)]
/-- The number of cells without a box. -/
theorem others_same (c : Dev Cert.KernelIdeal.nD) (i : Cert.ReferenceIdeal.S_.Idx) :
    Ideal.ofBits .f32 0x477D8000#32 - whole m ρ c (ix2 0 4) = val_main_v294 (F := Ideal) (targs m c) i := by
  rw [whole_count m ρ h c, sum_hasnt _ (h c), lit_cells, EReal.coe_sub]

/-! ## The five results -/

/-- The total loss, where the last padding rows are empty. -/
theorem loss_result_same (c : Dev Cert.KernelIdeal.nD) (hp : PadsEmpty (rows m c)) (i : Cert.ReferenceIdeal.S_.Idx) :
    (Cert.KernelIdeal.Gen.W4 m ρ c (Proc.devRef .tc Cert.KernelIdeal.main_v20) : Vec Ideal Cert.KernelIdeal.S_ .f32) i = val_main_v291 (F := Ideal) (preds m c) (targs m c) i := by
  rw [loss_read, loss_value, sum_total, box_same m ρ h c hp i, obj_same m ρ h c i, no_same m ρ h c i, cls_same m ρ h c i]

/-- The box loss, where the last padding rows are empty. -/
theorem box_result_same (c : Dev Cert.KernelIdeal.nD) (hp : PadsEmpty (rows m c)) (i : Cert.ReferenceIdeal.S_.Idx) :
    (Cert.KernelIdeal.Gen.W4 m ρ c (Proc.devRef .tc Cert.KernelIdeal.main_v21) : Vec Ideal Cert.KernelIdeal.S_ .f32) i = val_main_v297 (F := Ideal) (preds m c) (targs m c) i := by
  rw [box_result, box_value, box_same m ρ h c hp i, count_same m ρ h c i]

/-- The object loss. -/
theorem obj_result_same (c : Dev Cert.KernelIdeal.nD) (i : Cert.ReferenceIdeal.S_.Idx) :
    (Cert.KernelIdeal.Gen.W4 m ρ c (Proc.devRef .tc Cert.KernelIdeal.main_v22) : Vec Ideal Cert.KernelIdeal.S_ .f32) i = val_main_v299 (F := Ideal) (preds m c) (targs m c) i := by
  rw [obj_result, obj_value, obj_same m ρ h c i, count_same m ρ h c i]

/-- The no-object loss. -/
theorem no_result_same (c : Dev Cert.KernelIdeal.nD) (i : Cert.ReferenceIdeal.S_.Idx) :
    (Cert.KernelIdeal.Gen.W4 m ρ c (Proc.devRef .tc Cert.KernelIdeal.main_v23) : Vec Ideal Cert.KernelIdeal.S_ .f32) i = val_main_v301 (F := Ideal) (preds m c) (targs m c) i := by
  rw [no_result, no_value, no_same m ρ h c i, manyNo, others_same m ρ h c i]

/-- The class loss. -/
theorem cls_result_same (c : Dev Cert.KernelIdeal.nD) (i : Cert.ReferenceIdeal.S_.Idx) :
    (Cert.KernelIdeal.Gen.W4 m ρ c (Proc.devRef .tc Cert.KernelIdeal.main_v24) : Vec Ideal Cert.KernelIdeal.S_ .f32) i = val_main_v303 (F := Ideal) (preds m c) (targs m c) i := by
  rw [cls_result, cls_value, cls_same m ρ h c i, count_same m ρ h c i]

end Cert.Loss

end
-- ==== Proof.Masks.lean ====
/- What the claim's precondition and its mask say of the targets. -/
module

public import proofs.«01_k».proof.Pre_targets_in_range
public import proofs.«01_k».proof.On_last_padding_row_empty
public import proofs.«01_k».proof.Proof.Spec
public import Idealize.ShloMosaic.Lib.ReduceAll

@[expose] public section

noncomputable section

namespace Cert.Loss

open Idealize.ShloMosaic

/-- The shape relations of the precondition hold. -/
instance rangeFacts : Cert.Pre_targets_in_range.Facts where
  bcast_S_S32x50x9 := by decide

/-- The shape relations of the mask hold. -/
instance padFacts : Cert.On_last_padding_row_empty.Facts where
  slices_S32x50x9_S32x50x1_0_0_0 := by decide
  shapeCasts_S32x50x1_S32x50 := by decide
  slices_S32x50x9_S32x50x1_0_0_1 := by decide
  bcast_S_S32x50 := by decide
  slices_S32x50x9_S32x50x1_0_0_2 := by decide
  slices_S32x50x9_S32x50x1_0_0_3 := by decide
  slices_S32x50x9_S32x50x1_0_0_4 := by decide
  slices_S32x50x9_S32x50x1_0_0_5 := by decide
  bcast_S32x50_S32x1x50_0_2 := by decide
  bcast_S32x1x50_S32x50x50_0_1_2 := by decide
  reducesTo_S32x50x50_S32x50_d2 := by decide
  reducesTo_S32x50_S_d0_1 := by decide
  h_S_ := by decide

variable (x0 : Vec Ideal Cert.Pre_targets_in_range.S32x3x26x26x95 .f32) (x1 : Vec Ideal Cert.Pre_targets_in_range.S32x50x9 .i32)

/-- The precondition puts every field between 0 and 2. -/
theorem range_of_pre (h : Cert.Pre_targets_in_range.fn (F := Ideal) x0 x1 = fun _ => 1#1) : InRange fun b t f => x1 (ix3 b t f) := by
  intro b t f
  have e : IntOp.andi (IntOp.cmpi .sge (x1 (ix3 b t f)) 0#32) (IntOp.cmpi .slt (x1 (ix3 b t f)) 3#32) = 1#1 := congrFun h (ix3 b t f)
  show (x1 (ix3 b t f)).toNat < 3
  generalize x1 (ix3 b t f) = w at e
  obtain ⟨e1, e2⟩ := IntOp.andi_eq_one.1 e
  have h1 : (0#32 : BitVec 32).sle w = true := by
    by_contra hn
    rw [Bool.not_eq_true] at hn
    rw [show IntOp.cmpi .sge w 0#32 = BitVec.ofBool ((0#32 : BitVec 32).sle w) from rfl, hn] at e1
    exact absurd e1 (by decide)
  have h2 : w.slt 3#32 = true := by
    by_contra hn
    rw [Bool.not_eq_true] at hn
    rw [show IntOp.cmpi .slt w 3#32 = BitVec.ofBool (w.slt 3#32) from rfl, hn] at e2
    exact absurd e2 (by decide)
  have h1 := BitVec.sle_iff_toInt_le.1 h1
  have h2 := BitVec.slt_iff_toInt_lt.1 h2
  have e0 : (0#32 : BitVec 32).toInt = 0 := by decide
  have e3 : (3#32 : BitVec 32).toInt = 3 := by decide
  have e := BitVec.toInt_eq_toNat_cond w
  have := w.isLt
  split at e <;> omega

/-- A left fold by `or` over bits that comes out 1 from 0 meets a 1. -/
theorem foldl_or_one {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    rcases foldl_or_one f l _ h with h1 | ⟨n, hn, h2⟩
    · rcases IntOp.ori_eq_one.1 h1 with h3 | h3
      · exact .inl h3
      · exact .inr ⟨a, List.mem_cons_self .., h3⟩
    · exact .inr ⟨n, List.mem_cons_of_mem _ hn, h2⟩

/-- A reduction by `or` that is 1 at an index, from 0, meets a 1 among the elements reduced into it. -/
theorem reduce_or_one {s t u : Shape} {axes : List (Fin s.rank)} (x : s.Idx → BitVec 1) (init : u.Idx → BitVec 1) (h : s.ReducesTo axes t)
    (hu : 0 < u.numel) (h0 : ∀ k, init k = 0#1) (j : t.Idx) (e : Host.reduce IntOp.ori x init h hu j = 1#1) : ∃ i, h.drop i = j ∧ x i = 1#1 := by
  rw [Host.reduce_eq_foldl] at e
  rcases foldl_or_one x _ _ e with h1 | ⟨i, hi, h2⟩
  · rw [h0] at h1
    exact absurd h1 (by decide)
  · rw [List.mem_filter] at hi
    exact ⟨i, by simpa using hi.2, h2⟩

/-- Two words whose test for equality holds are equal. -/
theorem eq_of_test (v w : BitVec 32) (h : IntOp.cmpi .eq v w = 1#1) : v = w := by
  rw [eq_test] at h
  by_contra hn
  rw [if_neg hn] at h
  exact absurd h (by decide)

/-- Two words whose test for difference holds differ. -/
theorem ne_of_test (v w : BitVec 32) (h : IntOp.cmpi .ne v w = 1#1) : v ≠ w := by
  rw [ne_test] at h
  intro hn
  rw [if_pos hn] at h
  exact absurd h (by decide)

/-- The test of two row numbers for order, read back. -/
theorem lt_of_test (p q : Fin 50) (h : IntOp.cmpi .sgt (BitVec.ofNat 32 p.val) (BitVec.ofNat 32 q.val) = 1#1) : q < p := by
  revert p q
  decide +kernel

/-- Whether a row that names no box follows row `j 1` of image `j 0`, as the mask asks it. -/
abbrev followed : Cert.On_last_padding_row_empty.S32x50x50.Idx → BitVec 1 := fun i =>
  IntOp.andi (IntOp.ori (IntOp.cmpi .eq (x1 (ix3 (i 0) (i 2) 0)) 0#32) (IntOp.cmpi .ne (x1 (ix3 (i 0) (i 2) 5)) 1#32))
    (IntOp.cmpi .sgt (BitVec.ofNat 32 (i 2).val) (BitVec.ofNat 32 (i 1).val))

/-- Where the mask is set, a row of class 0 has a box of zeros unless a row without a box follows it. -/
theorem pads_of_mask (i : Cert.On_last_padding_row_empty.S_.Idx) (h : (Cert.On_last_padding_row_empty.fn (F := Ideal) x0 x1).1 i = 1#1) :
    PadsEmpty fun b t f => x1 (ix3 b t f) := by
  intro b t hz
  have e : IntOp.ori (IntOp.ori (IntOp.cmpi .ne (x1 (ix3 b t 0)) 0#32) (IntOp.andi (IntOp.andi (IntOp.andi (IntOp.cmpi .eq (x1 (ix3 b t 1)) 0#32)
      (IntOp.cmpi .eq (x1 (ix3 b t 2)) 0#32)) (IntOp.cmpi .eq (x1 (ix3 b t 3)) 0#32)) (IntOp.cmpi .eq (x1 (ix3 b t 4)) 0#32)))
      (Host.reduce IntOp.ori (followed x1) (constantI Cert.On_last_padding_row_empty.S_ 1 0#1) Cert.On_last_padding_row_empty.Facts.reducesTo_S32x50x50_S32x50_d2
        Cert.On_last_padding_row_empty.Facts.h_S_ (ix2 b t)) = 1#1 := by
    refine Eq.trans (Eq.symm ?_) (Host.reduce_andi_all _ _ _ _ i h (ix2 b t))
    refine congrArg₂ IntOp.ori ?_ (congrArg (fun x => Host.reduce IntOp.ori x _ _ _ (ix2 b t)) (funext fun k => ?_))
    · pointwise
    · obtain ⟨b, t, t', rfl⟩ : ∃ b t t', k = ix3 b t t' := ⟨k 0, k 1, k 2, by funext a; fin_cases a <;> rfl⟩
      pointwise
      rfl
  have hz : x1 (ix3 b t 0) = 0#32 := hz
  rcases IntOp.ori_eq_one.1 e with e | e
  · rcases IntOp.ori_eq_one.1 e with e | e
    · exact absurd hz (ne_of_test _ _ e)
    · obtain ⟨e, e4⟩ := IntOp.andi_eq_one.1 e
      obtain ⟨e, e3⟩ := IntOp.andi_eq_one.1 e
      obtain ⟨e1, e2⟩ := IntOp.andi_eq_one.1 e
      exact .inl ⟨eq_of_test _ _ e1, eq_of_test _ _ e2, eq_of_test _ _ e3, eq_of_test _ _ e4⟩
  · obtain ⟨k, hk, e⟩ := reduce_or_one _ _ _ _ (fun _ => rfl) _ e
    have k0 : k 0 = b := Fin.ext (congrArg (fun j => (j 0).val) hk)
    have k1 : k 1 = t := Fin.ext (congrArg (fun j => (j 1).val) hk)
    obtain ⟨e, l⟩ := IntOp.andi_eq_one.1 e
    refine .inr ⟨k 2, ?_, fun hv => ?_⟩
    · have := lt_of_test (k 2) (k 1) l
      rwa [k1] at this
    · have hv : x1 (ix3 b (k 2) 0) ≠ 0#32 ∧ x1 (ix3 b (k 2) 5) = 1#32 := hv
      rw [k0] at e
      rcases IntOp.ori_eq_one.1 e with e | e
      · exact hv.1 (eq_of_test _ _ e)
      · exact ne_of_test _ _ e hv.2

end Cert.Loss

end
-- ==== Proof.lean ====
/- The claims of `Defs`, proved: the frames, and the five results of the kernel and of the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import proofs.«01_k».proof.Proof.Masks

@[expose] public section

noncomputable section

namespace Cert.Proof

open Idealize.ShloMosaic Idealize.ShloMosaic.TcCoe Idealize.SL.Sem Cert.Loss Cert.ReferenceIdeal.Read

/-- The reference runs, leaves its arguments alone and every semaphore at zero. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2.2.2, sem_eq_zero_of_no_sems (by decide) r.2⟩) (Cert.ReferenceIdeal.Value.run (F := Ideal) m ρ)

/-- The reference's run, with each result as the term read in `RefValue`. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v291) = val_main_v291 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v297) = val_main_v297 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v299) = val_main_v299 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v301) = val_main_v301 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v303) = val_main_v303 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun r h c => ⟨(h c).1.trans (val_main_v291_eq _), (h c).2.1.trans (val_main_v297_eq _), (h c).2.2.1.trans (val_main_v299_eq _),
    (h c).2.2.2.1.trans (val_main_v301_eq _), (h c).2.2.2.2.1.trans (val_main_v303_eq _), (h c).2.2.2.2.2⟩) (Cert.ReferenceIdeal.Value.run (F := Ideal) m ρ)

/-- The five results of the kernel are the reference's: the total and the box loss where the last padding rows are empty,
    the other three always. -/
theorem results_same : Cert.algebraic_KernelIdeal_ReferenceIdeal_on_last_padding_row_empty_pre_targets_in_range := by
  intro m ρ m' ρ' hpre hargs
  have h : ∀ c, InRange (rows m c) := fun c => range_of_pre _ _ (hpre c)
  refine ⟨fun c => val_main_v291 (F := Ideal) (preds m c) (targs m c), fun c => val_main_v297 (F := Ideal) (preds m c) (targs m c),
    fun c => val_main_v299 (F := Ideal) (preds m c) (targs m c), fun c => val_main_v301 (F := Ideal) (preds m c) (targs m c),
    fun c => val_main_v303 (F := Ideal) (preds m c) (targs m c), ?_, ?_⟩
  · refine (θ_run Cert.KernelIdeal.defs _ _).mono (fun r hr c => ?_) (run_all (F := Ideal) m ρ)
    have hm : ∀ b, b ∈ Pipeline.ucRefs Cert.KernelIdeal.τ Cert.KernelIdeal.sig → r.2.mem ((c : Thread Cert.KernelIdeal.nD Cert.KernelIdeal.τ).1, b) = Cert.KernelIdeal.Gen.W4 m ρ c b := hr c
    refine ⟨fun i hi => ?_, fun i hi => ?_, fun i _ => ?_, fun i _ => ?_, fun i _ => ?_, ?_, ?_⟩
    · exact (congrFun (hm _ (Cert.KernelIdeal.Gen.mem_uc Cert.KernelIdeal.main_v20 (by decide))) i).trans (loss_result_same m ρ h c (pads_of_mask (preds m c) (targs m c) i hi) i)
    · exact (congrFun (hm _ (Cert.KernelIdeal.Gen.mem_uc Cert.KernelIdeal.main_v21 (by decide))) i).trans (box_result_same m ρ h c (pads_of_mask (preds m c) (targs m c) i hi) i)
    · exact (congrFun (hm _ (Cert.KernelIdeal.Gen.mem_uc Cert.KernelIdeal.main_v22 (by decide))) i).trans (obj_result_same m ρ h c i)
    · exact (congrFun (hm _ (Cert.KernelIdeal.Gen.mem_uc Cert.KernelIdeal.main_v23 (by decide))) i).trans (no_result_same m ρ h c i)
    · exact (congrFun (hm _ (Cert.KernelIdeal.Gen.mem_uc Cert.KernelIdeal.main_v24 (by decide))) i).trans (cls_result_same m ρ h c i)
    · exact (hm _ (Cert.KernelIdeal.Gen.mem_uc Cert.KernelIdeal.main_arg0 (by decide))).trans (Cert.KernelIdeal.Gen.W4_main_arg0 m ρ c)
    · exact (hm _ (Cert.KernelIdeal.Gen.mem_uc Cert.KernelIdeal.main_arg1 (by decide))).trans (Cert.KernelIdeal.Gen.W4_main_arg1 m ρ c)
  · refine (θ_run Cert.ReferenceIdeal.defs _ _).mono (fun r hr c => ?_) (reference_run m' ρ')
    have e0 : m' ((c.tc : Thread Cert.ReferenceIdeal.nD Cert.ReferenceIdeal.τ).loc Cert.ReferenceIdeal.main_arg0) = preds m c := (hargs c).1
    have e1 : m' ((c.tc : Thread Cert.ReferenceIdeal.nD Cert.ReferenceIdeal.τ).loc Cert.ReferenceIdeal.main_arg1) = targs m c := (hargs c).2
    obtain ⟨r0, r1, r2, r3, r4, r5⟩ := hr c
    rw [e0, e1] at r0 r1 r2 r3 r4
    exact ⟨fun i _ => congrFun r0 i, fun i _ => congrFun r1 i, fun i _ => congrFun r2 i, fun i _ => congrFun r3 i, fun i _ => congrFun r4 i, r5⟩

/-- Everything claimed. -/
theorem claim : Cert.Claim := ⟨Cert.Kernel.Gen.facts, Cert.KernelIdeal.Gen.facts, Cert.ReferenceIdeal.Gen.facts, rangeFacts, padFacts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ, trivial, results_same⟩

end Cert.Proof

end
